-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S16x2048 : Shape := ⟨2, ![16, 2048]⟩
abbrev S16384x2048 : Shape := ⟨2, ![16384, 2048]⟩
abbrev S16x16384 : Shape := ⟨2, ![16, 16384]⟩
abbrev S2048x2048 : Shape := ⟨2, ![2048, 2048]⟩
abbrev S16 : Shape := ⟨1, ![16]⟩
abbrev S16x1 : Shape := ⟨2, ![16, 1]⟩
abbrev S2048 : Shape := ⟨1, ![2048]⟩
abbrev S2048x1 : Shape := ⟨2, ![2048, 1]⟩
abbrev S2048x16 : Shape := ⟨2, ![2048, 16]⟩
abbrev S2x16384 : Shape := ⟨2, ![2, 16384]⟩
abbrev S16x512 : Shape := ⟨2, ![16, 512]⟩
abbrev S2x512 : Shape := ⟨2, ![2, 512]⟩
abbrev S_ : Shape := ⟨0, ![]⟩
abbrev S1x16 : Shape := ⟨2, ![1, 16]⟩
abbrev S16384x2 : Shape := ⟨2, ![16384, 2]⟩
abbrev S4x4096x2 : Shape := ⟨3, ![4, 4096, 2]⟩

abbrev nBuf : Table → Nat
  | .hbm => 10
  | .local .tc .vmem => 6
  | .local .scVector .vmem => 3
  | _ => 0

abbrev bufTy : (tb : Table) → Fin (nBuf tb) → BufTy
  | .hbm, ⟨0, _⟩ => ⟨S4x4096x2048, .f32⟩
  | .hbm, ⟨1, _⟩ => ⟨S16x2048, .f32⟩
  | .hbm, ⟨2, _⟩ => ⟨S16384x2048, .f32⟩
  | .hbm, ⟨3, _⟩ => ⟨S16x16384, .f32⟩
  | .hbm, ⟨4, _⟩ => ⟨S2x16384, .i32⟩
  | .hbm, ⟨5, _⟩ => ⟨S2x16384, .f32⟩
  | .hbm, ⟨6, _⟩ => ⟨S16384x2, .i32⟩
  | .hbm, ⟨7, _⟩ => ⟨S4x4096x2, .i32⟩
  | .hbm, ⟨8, _⟩ => ⟨S16384x2, .f32⟩
  | .hbm, ⟨9, _⟩ => ⟨S4x4096x2, .f32⟩
  | .local .tc .vmem, ⟨0, _⟩ => ⟨S2048x2048, .f32⟩
  | .local .tc .vmem, ⟨1, _⟩ => ⟨S2048x2048, .f32⟩
  | .local .tc .vmem, ⟨2, _⟩ => ⟨S16x2048, .f32⟩
  | .local .tc .vmem, ⟨3, _⟩ => ⟨S16x2048, .f32⟩
  | .local .tc .vmem, ⟨4, _⟩ => ⟨S16x2048, .f32⟩
  | .local .tc .vmem, ⟨5, _⟩ => ⟨S16x2048, .f32⟩
  | .local .scVector .vmem, ⟨0, _⟩ => ⟨S16x512, .f32⟩
  | .local .scVector .vmem, ⟨1, _⟩ => ⟨S2x512, .i32⟩
  | .local .scVector .vmem, ⟨2, _⟩ => ⟨S2x512, .f32⟩
  | _, _ => ⟨S4x4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off2 (k1_t1 : Fin k1_t1_loop.trips) : Fin 2 → Nat :=
  let c0_i32_2 : BitVec 32 := 0#32
  let v5 : Index := Scalar.indexCast c0_i32_2
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v6 : Index := Scalar.indexCast v4
  ![0, v6.toNat]
def k1_off3 (k1_t1 : Fin k1_t1_loop.trips) : Fin 2 → Nat :=
  let c1_i32_3 : BitVec 32 := 1#32
  let v9 : Index := Scalar.indexCast c1_i32_3
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v10 : Index := Scalar.indexCast v4
  ![1, v10.toNat]
def k1_off4 (k1_t1 : Fin k1_t1_loop.trips) : Fin 2 → Nat :=
  let c2_i32_4 : BitVec 32 := 2#32
  let v13 : Index := Scalar.indexCast c2_i32_4
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v14 : Index := Scalar.indexCast v4
  ![2, v14.toNat]
def k1_off5 (k1_t1 : Fin k1_t1_loop.trips) : Fin 2 → Nat :=
  let c3_i32 : BitVec 32 := 3#32
  let v17 : Index := Scalar.indexCast c3_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v18 : Index := Scalar.indexCast v4
  ![3, v18.toNat]
def k1_off6 (k1_t1 : Fin k1_t1_loop.trips) : Fin 2 → Nat :=
  let c4_i32 : BitVec 32 := 4#32
  let v21 : Index := Scalar.indexCast c4_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v22 : Index := Scalar.indexCast v4
  ![4, v22.toNat]
def k1_off7 (k1_t1 : Fin k1_t1_loop.trips) : Fin 2 → Nat :=
  let c5_i32 : BitVec 32 := 5#32
  let v25 : Index := Scalar.indexCast c5_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v26 : Index := Scalar.indexCast v4
  ![5, v26.toNat]
def k1_off8 (k1_t1 : Fin k1_t1_loop.trips) : Fin 2 → Nat :=
  let c6_i32 : BitVec 32 := 6#32
  let v29 : Index := Scalar.indexCast c6_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v30 : Index := Scalar.indexCast v4
  ![6, v30.toNat]
def k1_off9 (k1_t1 : Fin k1_t1_loop.trips) : Fin 2 → Nat :=
  let c7_i32 : BitVec 32 := 7#32
  let v33 : Index := Scalar.indexCast c7_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v34 : Index := Scalar.indexCast v4
  ![7, v34.toNat]
def k1_off10 (k1_t1 : Fin k1_t1_loop.trips) : Fin 2 → Nat :=
  let c8_i32 : BitVec 32 := 8#32
  let v37 : Index := Scalar.indexCast c8_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v38 : Index := Scalar.indexCast v4
  ![8, v38.toNat]
def k1_off11 (k1_t1 : Fin k1_t1_loop.trips) : Fin 2 → Nat :=
  let c9_i32 : BitVec 32 := 9#32
  let v41 : Index := Scalar.indexCast c9_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v42 : Index := Scalar.indexCast v4
  ![9, v42.toNat]
def k1_off12 (k1_t1 : Fin k1_t1_loop.trips) : Fin 2 → Nat :=
  let c10_i32 : BitVec 32 := 10#32
  let v45 : Index := Scalar.indexCast c10_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v46 : Index := Scalar.indexCast v4
  ![10, v46.toNat]
def k1_off13 (k1_t1 : Fin k1_t1_loop.trips) : Fin 2 → Nat :=
  let c11_i32 : BitVec 32 := 11#32
  let v49 : Index := Scalar.indexCast c11_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v50 : Index := Scalar.indexCast v4
  ![11, v50.toNat]
def k1_off14 (k1_t1 : Fin k1_t1_loop.trips) : Fin 2 → Nat :=
  let c12_i32 : BitVec 32 := 12#32
  let v53 : Index := Scalar.indexCast c12_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v54 : Index := Scalar.indexCast v4
  ![12, v54.toNat]
def k1_off15 (k1_t1 : Fin k1_t1_loop.trips) : Fin 2 → Nat :=
  let c13_i32 : BitVec 32 := 13#32
  let v57 : Index := Scalar.indexCast c13_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v58 : Index := Scalar.indexCast v4
  ![13, v58.toNat]
def k1_off16 (k1_t1 : Fin k1_t1_loop.trips) : Fin 2 → Nat :=
  let c14_i32 : BitVec 32 := 14#32
  let v61 : Index := Scalar.indexCast c14_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v62 : Index := Scalar.indexCast v4
  ![14, v62.toNat]
def k1_off17 (k1_t1 : Fin k1_t1_loop.trips) : Fin 2 → Nat :=
  let c15_i32 : BitVec 32 := 15#32
  let v65 : Index := Scalar.indexCast c15_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v66 : Index := Scalar.indexCast v4
  ![15, v66.toNat]
def k1_off18 (k1_t1 : Fin k1_t1_loop.trips) : Fin 2 → Nat :=
  let c0_i32_55 : BitVec 32 := 0#32
  let v249 : Index := Scalar.indexCast c0_i32_55
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v250 : Index := Scalar.indexCast v4
  ![0, v250.toNat]
def k1_off19 (k1_t1 : Fin k1_t1_loop.trips) : Fin 2 → Nat :=
  let c1_i32_56 : BitVec 32 := 1#32
  let v254 : Index := Scalar.indexCast c1_i32_56
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v255 : Index := Scalar.indexCast v4
  ![1, v255.toNat]
def k1_off20 (i : grid1.Coords) : Fin 2 → Nat :=
  let c0_i32_2_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S16x2048 : Shape := ⟨2, ![16, 2048]⟩
abbrev S_ : Shape := ⟨0, ![]⟩
abbrev S4x4096 : Shape := ⟨2, ![4, 4096]⟩
abbrev S4x4096x1 : Shape := ⟨3, ![4, 4096, 1]⟩
abbrev S16 : Shape := ⟨1, ![16]⟩
abbrev S16x1 : Shape := ⟨2, ![16, 1]⟩
abbrev S4x4096x16 : Shape := ⟨3, ![4, 4096, 16]⟩
abbrev S4x4096x2 : Shape := ⟨3, ![4, 4096, 2]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S4x4096x2048, .f32⟩
  | .hbm, ⟨11, _⟩ => ⟨S4x4096x2048, .f32⟩
  | .hbm, ⟨12, _⟩ => ⟨S16x2048, .f32⟩
  | .hbm, ⟨13, _⟩ => ⟨S_, .f32⟩
  | .hbm, ⟨14, _⟩ => ⟨S16, .f32⟩
  | .hbm, ⟨15, _⟩ => ⟨S16x1, .f32⟩
  | .hbm, ⟨16, _⟩ => ⟨S16x1, .f32⟩
  | .hbm, ⟨17, _⟩ => ⟨S_, .f32⟩
  | .hbm, ⟨18, _⟩ => ⟨S16x1, .f32⟩
  | .hbm, ⟨19, _⟩ => ⟨S16x1, .f32⟩
  | .hbm, ⟨20, _⟩ => ⟨S16x2048, .f32⟩
  | .hbm, ⟨21, _⟩ => ⟨S16x2048, .f32⟩
  | .hbm, ⟨22, _⟩ => ⟨S4x4096x16, .f32⟩
  | .hbm, ⟨23, _⟩ => ⟨S_, .f32⟩
  | .hbm, ⟨24, _⟩ => ⟨S4x4096x16, .f32⟩
  | .hbm, ⟨25, _⟩ => ⟨S4x4096x16, .f32⟩
  | .hbm, ⟨26, _⟩ => ⟨S4x4096x2, .f32⟩
  | .hbm, ⟨27, _⟩ => ⟨S4x4096x2, .i32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x2, .f32⟩
  | .hbm, ⟨35, _⟩ => ⟨S4x4096x2, .f32⟩
  | .hbm, ⟨36, _⟩ => ⟨S4x4096x2, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x2, .f32⟩
  | .hbm, ⟨41, _⟩ => ⟨S4x4096x2, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_values : Ref sig .tc := ⟨.hbm, 26, rfl⟩
abbrev main_indices : Ref sig .tc := ⟨.hbm, 27, rfl⟩
abbrev main_cst_2 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Proof.Setup.lean ====
/-
  What every part of the run of `KernelIdeal` shares: the program as the launch theorem for SparseCore calls sees it,
  the resource algebra, the buffers by name, and the closed forms of what the TensorCore kernel leaves in the logits.

  The program is @main on the TensorCore: a reshape, one pipelined TensorCore kernel (the logits, transposed: expert by
  token), one SparseCore call (the two best experts of every token and their weights), and four host lines that bring
  the two results to their final shape. Everything here is stated over an arbitrary float interpretation `F`, so that
  the one run serves both the word-level program and the ideal one.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.RegionsLoop
public import Idealize.ShloMosaic.Lib.Pipeline.ValueKit
public import Idealize.ShloMosaic.Lib.Tactic
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the TensorCore program: the kernels' own, and the one pipeline's. -/
abbrev ΛP : Labels := Pipeline.Sig Λ₀ (Fin 1) fun p => (pcfgs (F := F) p).Adm
/-- The one SparseCore call. -/
abbrev K : SparseCore.Cfg τ sig (ΛP (F := F)) 1 := sc (F := F)
/-- The table of kernel bodies, with the pipeline's own entries. -/
abbrev D [FloatOps F] : Defs nD τ sig (Elt F) (ΛP (F := F)) := Pipeline.defs pcfgs defs₀
/-- No kernel body calls another. -/
abbrev 𝒱₀ : Variants := Variants.none
abbrev 𝒱 : Variants := 𝒱₀.lift
abbrev v₀ : 𝒱.V := Sum.inl none

/-- What the launch asks of the handshake semaphores and of the SparseCores' buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra

The handshakes' rounds, the pipeline's rounds, and the counters of the tiles' own copies, side by side. -/

abbrev UH : Type := URounds (GSem nD τ sig) ℕ
abbrev UP : Type := URounds (GSem nD τ sig) Unit
abbrev UU : Type := UH × (UP × Counters)

/-- The logic's resources over the float interpretation `F`. -/
abbrev MM (F : FTy → Type) : Type := MT nD τ sig (HIx 1) (Elt F) ℕ UU ℕ

/-- The handshakes' component, -/
abbrev EH : Emb UH (MM F) := embL
/-- and the pipeline's. -/
def EP : Emb UP (MM F) := (Emb.inl : Emb UP (UP × Counters)).trans embR

instance EP_landsIn : (EP : Emb UP (MM F)).LandsIn (upEmb : UEmb _ (MM F)) := by unfold EP; infer_instance

/-! ## The buffers -/

/-- The arrays of device `d`: the reshaped activations, the prototypes, the logits, the chosen experts and their weights
    (both one column per token). -/
abbrev xLoc (d : Dev nD) : Loc nD τ sig := (SparseCore.T d).loc main_v0
abbrev pLoc (d : Dev nD) : Loc nD τ sig := (SparseCore.T d).loc main_arg1
abbrev lgLoc (d : Dev nD) : Loc nD τ sig := (SparseCore.T d).loc main_v1
abbrev eLoc (d : Dev nD) : Loc nD τ sig := (SparseCore.T d).loc main_v2_0
abbrev wLoc (d : Dev nD) : Loc nD τ sig := (SparseCore.T d).loc main_v2_1

variable [FloatOps F]

/-! ## What the TensorCore kernel computes -/

/-- Tokens `2048 · b … 2048 · b + 2047` of the activations: the block the kernel works on at grid point `b`. -/
def xBlock (X : FVec F S16384x2048 .f32) (b : Fin 8) : Vec F S2048x2048 .f32 :=
  fun j => X (ix2 ⟨b.val * 2048 + (j 0).val, by have h : (j 0).val < 2048 := (j 0).isLt; omega⟩ (j 1))

/-- The logits, expert by token: column `n` is column `n % 2048` of the block of token `n`, from that block of the
    activations and the normalised prototypes. -/
def logits (X : FVec F S16384x2048 .f32) (pr : FVec F S16x2048 .f32) : FVec F S16x16384 .f32 := fun i =>
  k0_pay2 (xBlock X ⟨(i 1).val / 2048, by have h : (i 1).val < 16384 := (i 1).isLt; omega⟩) (k0_pay1 pr)
    (ix2 (i 0) ⟨(i 1).val % 2048, Nat.mod_lt _ (by norm_num)⟩)

/-- The logits at column `2048 · b + j`. -/
theorem logits_at (X : FVec F S16384x2048 .f32) (pr : FVec F S16x2048 .f32) (b : Fin 8) (e : Fin 16) (j : Fin 2048)
    (h : b.val * 2048 + j.val < 16384) :
    logits X pr (ix2 e ⟨b.val * 2048 + j.val, h⟩) = k0_pay2 (xBlock X b) (k0_pay1 pr) (ix2 e j) := by
  unfold logits
  have hb : (⟨(b.val * 2048 + j.val) / 2048, by omega⟩ : Fin 8) = b := Fin.ext (by show (b.val * 2048 + j.val) / 2048 = b.val; omega)
  have hj : (⟨(b.val * 2048 + j.val) % 2048, Nat.mod_lt _ (by norm_num)⟩ : Fin 2048) = j :=
    Fin.ext (by show (b.val * 2048 + j.val) % 2048 = j.val; omega)
  show k0_pay2 (xBlock X ⟨(b.val * 2048 + j.val) / 2048, _⟩) (k0_pay1 pr) (ix2 e ⟨(b.val * 2048 + j.val) % 2048, _⟩) = _
  rw [hb, hj]

end Cert.Proof

end
-- ==== Proof.Scan.lean ====
/-
  What the SparseCore kernel does to one token. It reads the token's sixteen logits and scans them twice: the first scan
  keeps the largest logit and its expert (the first of equals, the comparison being strict), the second the largest among
  the other experts. The two weights are the softmax of those two logits. The kernel does this to sixteen tokens at a
  time, one per lane; here are the scans of one lane, and that every lane of the kernel's vectors is such a scan.
-/
module

public import proofs.«01_k».proof.Proof.Setup
public import Idealize.ShloMosaic.Lib.Pointwise.Reshape

@[expose] public section

noncomputable section

namespace Cert.Proof

open Cert.KernelIdeal Cert.KernelIdeal.Gen

open Idealize.ShloMosaic

variable {F : FTy → Type} [FloatOps F]

/-! ## One lane -/

/-- Expert `n` of a token's sixteen logits. -/
abbrev at16 {α : Type} (x : Fin 16 → α) (n : ℕ) : α := x (Fin.ofNat 16 n)

/-- The largest of logits `0 … n`. -/
def best (x : Fin 16 → F .f32) : ℕ → F .f32
  | 0 => at16 x 0
  | n + 1 => Scalar.select (FloatOps.cmpf .ogt (at16 x (n + 1)) (best x n)) (at16 x (n + 1)) (best x n)

/-- The expert that has it, the first of equals. -/
def bestIx (x : Fin 16 → F .f32) : ℕ → BitVec 32
  | 0 => 0#32
  | n + 1 => Scalar.select (FloatOps.cmpf .ogt (at16 x (n + 1)) (best x n)) (BitVec.ofNat 32 (n + 1)) (bestIx x n)

/-- Whether the second scan, at value `v` before expert `n`, takes expert `n`: it is not the best, `b`, and exceeds `v`. -/
def takes (x : Fin 16 → F .f32) (b : BitVec 32) (n : ℕ) (v : F .f32) : BitVec 1 :=
  IntOp.andi (IntOp.cmpi .ne b (BitVec.ofNat 32 n)) (FloatOps.cmpf .ogt (at16 x n) v)

/-- The largest of the first `n` logits other than expert `b`'s, minus infinity if there is none. -/
def next (x : Fin 16 → F .f32) (b : BitVec 32) : ℕ → F .f32
  | 0 => Scalar.ofBits .f32 0xFF800000#32
  | n + 1 => Scalar.select (takes x b n (next x b n)) (at16 x n) (next x b n)

/-- The expert that has it. -/
def nextIx (x : Fin 16 → F .f32) (b : BitVec 32) : ℕ → BitVec 32
  | 0 => 0#32
  | n + 1 => Scalar.select (takes x b n (next x b n)) (BitVec.ofNat 32 n) (nextIx x b n)

/-- The two chosen experts of a token, -/
def pick (x : Fin 16 → F .f32) (k : Fin 2) : BitVec 32 :=
  match k with
  | 0 => bestIx x 15
  | 1 => nextIx x (bestIx x 15) 16

/-- the softmax weight of the second, -/
def weight₂ (x : Fin 16 → F .f32) : F .f32 :=
  FloatOps.divf (FloatOps.exp (FloatOps.subf (next x (bestIx x 15) 16) (best x 15)))
    (FloatOps.addf (Scalar.ofBits .f32 0x3F800000#32) (FloatOps.exp (FloatOps.subf (next x (bestIx x 15) 16) (best x 15))))

/-- and both weights. -/
def weigh (x : Fin 16 → F .f32) (k : Fin 2) : F .f32 :=
  match k with
  | 0 => FloatOps.subf (Scalar.ofBits .f32 0x3F800000#32) (weight₂ x)
  | 1 => weight₂ x

/-! ## The kernel's vectors, lane by lane

`r` is the sixteen rows the kernel loaded, `lane r i` lane `i` of them. -/

abbrev lane (r : Fin 16 → FVec F S16 .f32) (i : S16.Idx) : Fin 16 → F .f32 := fun k => r k i

variable (r : Fin 16 → FVec F S16 .f32)

/-- The first scan after experts 0 … 7, -/
abbrev half₁ : FVec F S16 .f32 := k1_pay36 (r 0) (r 1) (r 2) (r 3) (r 4) (r 5) (r 6) (r 7)
abbrev halfIx₁ : IVec S16 32 := k1_pay37 (r 0) (r 1) (r 2) (r 3) (r 4) (r 5) (r 6) (r 7)
/-- and after all. -/
abbrev full₁ : FVec F S16 .f32 := k1_pay53 (r 8) (r 9) (r 10) (r 11) (r 12) (r 13) (r 14) (r 15) (half₁ r)
abbrev fullIx₁ : IVec S16 32 := k1_pay54 (r 8) (r 9) (r 10) (r 11) (r 12) (r 13) (r 14) (r 15) (half₁ r) (halfIx₁ r)

theorem half₁_apply (i : S16.Idx) : half₁ r i = best (lane r i) 7 := rfl
theorem halfIx₁_apply (i : S16.Idx) : halfIx₁ r i = bestIx (lane r i) 7 := rfl
theorem full₁_apply (i : S16.Idx) : full₁ r i = best (lane r i) 15 := rfl
theorem fullIx₁_apply (i : S16.Idx) : fullIx₁ r i = bestIx (lane r i) 15 := rfl

/-! The second scan, given the best experts `b`. -/

abbrev early₂ : FVec F S16 .f32 :=
  k1_pay60 (r 0) (r 1) (r 8) (r 9) (r 10) (r 11) (r 12) (r 13) (r 14) (r 15) (half₁ r) (halfIx₁ r)
abbrev earlyMask₂ : IVec S16 1 :=
  k1_pay59 (r 0) (r 1) (r 8) (r 9) (r 10) (r 11) (r 12) (r 13) (r 14) (r 15) (half₁ r) (halfIx₁ r)
abbrev earlyIx₂ : IVec S16 32 :=
  k1_pay58 (r 0) (r 8) (r 9) (r 10) (r 11) (r 12) (r 13) (r 14) (r 15) (half₁ r) (halfIx₁ r)
abbrev half₂ : FVec F S16 .f32 := k1_pay72 (r 2) (r 3) (r 4) (r 5) (r 6) (r 7) (fullIx₁ r) (early₂ r)
abbrev halfIx₂ : IVec S16 32 :=
  k1_pay73 (r 2) (r 3) (r 4) (r 5) (r 6) (r 7) (fullIx₁ r) (earlyIx₂ r) (earlyMask₂ r) (early₂ r) 1#32
abbrev other₂ : IVec S16 1 := k1_pay74 (fullIx₁ r)
abbrev above₂ : IVec S16 1 := k1_pay75 (r 2) (r 3) (r 4) (r 5) (r 6) (r 7) (r 8) (fullIx₁ r) (early₂ r)
abbrev late₂ : FVec F S16 .f32 :=
  k1_pay89 (r 8) (r 9) (r 10) (r 11) (r 12) (r 13) (r 14) (fullIx₁ r) (half₂ r) (other₂ r) (above₂ r)
abbrev lateIx₂ : IVec S16 32 :=
  k1_pay90 (r 8) (r 9) (r 10) (r 11) (r 12) (r 13) (r 14) (fullIx₁ r) (half₂ r) (halfIx₂ r) (other₂ r) (above₂ r)

section Second
variable (i : S16.Idx)

theorem early₂_apply : early₂ r i = next (lane r i) (fullIx₁ r i) 2 := rfl
theorem earlyMask₂_apply : earlyMask₂ r i = takes (lane r i) (fullIx₁ r i) 1 (next (lane r i) (fullIx₁ r i) 1) := rfl
theorem earlyIx₂_apply : earlyIx₂ r i = nextIx (lane r i) (fullIx₁ r i) 1 := rfl

/-- Experts 2 … 7, from what the scan has before them. -/
theorem middle_apply (b : IVec S16 32) (v : FVec F S16 .f32) (h : v i = next (lane r i) (b i) 2) :
    k1_pay72 (r 2) (r 3) (r 4) (r 5) (r 6) (r 7) b v i = next (lane r i) (b i) 8 := by
  simp only [next]
  simp only [next] at h
  rw [← h]
  rfl

theorem middleIx_apply (b : IVec S16 32) (v : FVec F S16 .f32) (k : IVec S16 32) (c : IVec S16 1)
    (h : v i = next (lane r i) (b i) 2) (hk : k i = nextIx (lane r i) (b i) 1)
    (hc : c i = takes (lane r i) (b i) 1 (next (lane r i) (b i) 1)) :
    k1_pay73 (r 2) (r 3) (r 4) (r 5) (r 6) (r 7) b k c v 1#32 i = nextIx (lane r i) (b i) 8 := by
  have h2 : Scalar.select (c i) 1#32 (k i) = nextIx (lane r i) (b i) 2 := by rw [hk, hc]; rfl
  have e : nextIx (lane r i) (b i) 8
      = Scalar.select (takes (lane r i) (b i) 7 (next (lane r i) (b i) 7)) 7#32
        (Scalar.select (takes (lane r i) (b i) 6 (next (lane r i) (b i) 6)) 6#32
        (Scalar.select (takes (lane r i) (b i) 5 (next (lane r i) (b i) 5)) 5#32
        (Scalar.select (takes (lane r i) (b i) 4 (next (lane r i) (b i) 4)) 4#32
        (Scalar.select (takes (lane r i) (b i) 3 (next (lane r i) (b i) 3)) 3#32
        (Scalar.select (takes (lane r i) (b i) 2 (next (lane r i) (b i) 2)) 2#32 (nextIx (lane r i) (b i) 2)))))) := rfl
  rw [e, ← h2]
  have n3 : next (lane r i) (b i) 3 = k1_pay62 (r 2) b v i := by
    show Scalar.select (takes _ _ 2 (next _ _ 2)) _ (next _ _ 2) = _
    rw [← h]; rfl
  have n4 : next (lane r i) (b i) 4 = k1_pay64 (r 2) (r 3) b v i := by
    show Scalar.select (takes _ _ 3 (next _ _ 3)) _ (next _ _ 3) = _
    rw [n3]; rfl
  have n5 : next (lane r i) (b i) 5 = k1_pay66 (r 2) (r 3) (r 4) b v i := by
    show Scalar.select (takes _ _ 4 (next _ _ 4)) _ (next _ _ 4) = _
    rw [n4]; rfl
  have n6 : next (lane r i) (b i) 6 = k1_pay68 (r 2) (r 3) (r 4) (r 5) b v i := by
    show Scalar.select (takes _ _ 5 (next _ _ 5)) _ (next _ _ 5) = _
    rw [n5]; rfl
  have n7 : next (lane r i) (b i) 7 = k1_pay70 (r 2) (r 3) (r 4) (r 5) (r 6) b v i := by
    show Scalar.select (takes _ _ 6 (next _ _ 6)) _ (next _ _ 6) = _
    rw [n6]; rfl
  rw [n3, n4, n5, n6, n7, ← h]
  rfl

/-- Experts 8 … 14. -/
theorem late_apply (b : IVec S16 32) (v : FVec F S16 .f32) (c d : IVec S16 1) (h : v i = next (lane r i) (b i) 8)
    (hc : IntOp.andi (c i) (d i) = takes (lane r i) (b i) 8 (next (lane r i) (b i) 8)) :
    k1_pay89 (r 8) (r 9) (r 10) (r 11) (r 12) (r 13) (r 14) b v c d i = next (lane r i) (b i) 15 := by
  have n9 : k1_pay77 (r 8) v c d i = next (lane r i) (b i) 9 := by
    show Scalar.select (IntOp.andi (c i) (d i)) (r 8 i) (v i) = _
    rw [hc, h]; rfl
  have n10 : k1_pay79 (r 8) (r 9) b v c d i = next (lane r i) (b i) 10 := by
    show _ = Scalar.select (takes _ _ 9 (next _ _ 9)) _ (next _ _ 9)
    rw [← n9]; rfl
  have n11 : k1_pay81 (r 8) (r 9) (r 10) b v c d i = next (lane r i) (b i) 11 := by
    show _ = Scalar.select (takes _ _ 10 (next _ _ 10)) _ (next _ _ 10)
    rw [← n10]; rfl
  have n12 : k1_pay83 (r 8) (r 9) (r 10) (r 11) b v c d i = next (lane r i) (b i) 12 := by
    show _ = Scalar.select (takes _ _ 11 (next _ _ 11)) _ (next _ _ 11)
    rw [← n11]; rfl
  have n13 : k1_pay85 (r 8) (r 9) (r 10) (r 11) (r 12) b v c d i = next (lane r i) (b i) 13 := by
    show _ = Scalar.select (takes _ _ 12 (next _ _ 12)) _ (next _ _ 12)
    rw [← n12]; rfl
  have n14 : k1_pay87 (r 8) (r 9) (r 10) (r 11) (r 12) (r 13) b v c d i = next (lane r i) (b i) 14 := by
    show _ = Scalar.select (takes _ _ 13 (next _ _ 13)) _ (next _ _ 13)
    rw [← n13]; rfl
  show _ = Scalar.select (takes _ _ 14 (next _ _ 14)) _ (next _ _ 14)
  rw [← n14]; rfl

theorem lateIx_apply (b : IVec S16 32) (v : FVec F S16 .f32) (k : IVec S16 32) (c d : IVec S16 1)
    (h : v i = next (lane r i) (b i) 8) (hk : k i = nextIx (lane r i) (b i) 8)
    (hc : IntOp.andi (c i) (d i) = takes (lane r i) (b i) 8 (next (lane r i) (b i) 8)) :
    k1_pay90 (r 8) (r 9) (r 10) (r 11) (r 12) (r 13) (r 14) b v k c d i = nextIx (lane r i) (b i) 15 := by
  have h9 : Scalar.select (IntOp.andi (c i) (d i)) 8#32 (k i) = nextIx (lane r i) (b i) 9 := by rw [hc, hk]; rfl
  have n9 : next (lane r i) (b i) 9 = k1_pay77 (r 8) v c d i := by
    show _ = Scalar.select (IntOp.andi (c i) (d i)) (r 8 i) (v i)
    rw [hc, h]; rfl
  have n10 : next (lane r i) (b i) 10 = k1_pay79 (r 8) (r 9) b v c d i := by
    show Scalar.select (takes _ _ 9 (next _ _ 9)) _ (next _ _ 9) = _
    rw [n9]; rfl
  have n11 : next (lane r i) (b i) 11 = k1_pay81 (r 8) (r 9) (r 10) b v c d i := by
    show Scalar.select (takes _ _ 10 (next _ _ 10)) _ (next _ _ 10) = _
    rw [n10]; rfl
  have n12 : next (lane r i) (b i) 12 = k1_pay83 (r 8) (r 9) (r 10) (r 11) b v c d i := by
    show Scalar.select (takes _ _ 11 (next _ _ 11)) _ (next _ _ 11) = _
    rw [n11]; rfl
  have n13 : next (lane r i) (b i) 13 = k1_pay85 (r 8) (r 9) (r 10) (r 11) (r 12) b v c d i := by
    show Scalar.select (takes _ _ 12 (next _ _ 12)) _ (next _ _ 12) = _
    rw [n12]; rfl
  have n14 : next (lane r i) (b i) 14 = k1_pay87 (r 8) (r 9) (r 10) (r 11) (r 12) (r 13) b v c d i := by
    show Scalar.select (takes _ _ 13 (next _ _ 13)) _ (next _ _ 13) = _
    rw [n13]; rfl
  have e : nextIx (lane r i) (b i) 15
      = Scalar.select (takes (lane r i) (b i) 14 (next (lane r i) (b i) 14)) 14#32
        (Scalar.select (takes (lane r i) (b i) 13 (next (lane r i) (b i) 13)) 13#32
        (Scalar.select (takes (lane r i) (b i) 12 (next (lane r i) (b i) 12)) 12#32
        (Scalar.select (takes (lane r i) (b i) 11 (next (lane r i) (b i) 11)) 11#32
        (Scalar.select (takes (lane r i) (b i) 10 (next (lane r i) (b i) 10)) 10#32
        (Scalar.select (takes (lane r i) (b i) 9 (next (lane r i) (b i) 9)) 9#32 (nextIx (lane r i) (b i) 9)))))) := rfl
  rw [e, ← h9, n9, n10, n11, n12, n13, n14]
  rfl

theorem half₂_apply : half₂ r i = next (lane r i) (fullIx₁ r i) 8 := middle_apply r i _ _ (early₂_apply r i)
theorem halfIx₂_apply : halfIx₂ r i = nextIx (lane r i) (fullIx₁ r i) 8 :=
  middleIx_apply r i _ _ _ _ (early₂_apply r i) (earlyIx₂_apply r i) (earlyMask₂_apply r i)
theorem mask₂_apply : IntOp.andi (other₂ r i) (above₂ r i) = takes (lane r i) (fullIx₁ r i) 8 (next (lane r i) (fullIx₁ r i) 8) := by
  rw [← half₂_apply]; rfl
theorem late₂_apply : late₂ r i = next (lane r i) (fullIx₁ r i) 15 :=
  late_apply r i _ _ _ _ (half₂_apply r i) (mask₂_apply r i)
theorem lateIx₂_apply : lateIx₂ r i = nextIx (lane r i) (fullIx₁ r i) 15 :=
  lateIx_apply r i _ _ _ _ _ (half₂_apply r i) (halfIx₂_apply r i) (mask₂_apply r i)

end Second

/-! ## The four stored rows -/

/-- The lane of column `j` of a stored row. -/
theorem row_lane (j : S1x16.Idx) : Shape.reshapeEquiv (s := S16) (s' := S1x16) shapeCasts_S16_S1x16 j = ix1 (n0 := 16) (j 1) :=
  Shape.reshapeEquiv_eq_of_rowMajor _ (by
    have h : (j 0).val < 1 := (j 0).isLt
    rw [rowMajor_val1, rowMajor_val2 j 16 rfl]
    show (j 1).val = _
    omega)

theorem stored_ix₁ (j : S1x16.Idx) : k1_pay3 (fullIx₁ r) j = pick (lane r (ix1 (n0 := 16) (j 1))) 0 := by
  show fullIx₁ r (Shape.reshapeEquiv shapeCasts_S16_S1x16 j) = _
  rw [row_lane]
  exact fullIx₁_apply r _

theorem last_mask (i : S16.Idx) (b : IVec S16 32) (v : FVec F S16 .f32) (h : v i = next (lane r i) (b i) 15) :
    k1_pay1 (r 15) b v 15#32 i = takes (lane r i) (b i) 15 (next (lane r i) (b i) 15) := by
  rw [← h]; rfl

theorem stored_ix₂ (j : S1x16.Idx) :
    k1_pay4 (r 15) (fullIx₁ r) (late₂ r) (lateIx₂ r) 15#32 j = pick (lane r (ix1 (n0 := 16) (j 1))) 1 := by
  show Scalar.select (k1_pay1 (r 15) (fullIx₁ r) (late₂ r) 15#32 (Shape.reshapeEquiv shapeCasts_S16_S1x16 j)) 15#32
    (lateIx₂ r (Shape.reshapeEquiv shapeCasts_S16_S1x16 j)) = _
  rw [row_lane, last_mask r _ _ _ (late₂_apply r _), lateIx₂_apply, fullIx₁_apply]
  rfl

theorem weight₂_apply (i : S16.Idx) : k1_pay2 (r 15) (full₁ r) (fullIx₁ r) (late₂ r) 15#32 i = weight₂ (lane r i) := by
  have h : Scalar.select (k1_pay1 (r 15) (fullIx₁ r) (late₂ r) 15#32 i) (r 15 i) (late₂ r i)
      = next (lane r i) (bestIx (lane r i) 15) 16 := by
    rw [last_mask r _ _ _ (late₂_apply r _), late₂_apply, fullIx₁_apply]; rfl
  unfold weight₂
  rw [← h, ← full₁_apply]
  rfl

theorem stored_w₁ (j : S1x16.Idx) :
    k1_pay5 (r 15) (full₁ r) (fullIx₁ r) (late₂ r) 15#32 j = weigh (lane r (ix1 (n0 := 16) (j 1))) 0 := by
  show FloatOps.subf _ (k1_pay2 (r 15) (full₁ r) (fullIx₁ r) (late₂ r) 15#32 (Shape.reshapeEquiv shapeCasts_S16_S1x16 j)) = _
  rw [row_lane, weight₂_apply]
  rfl

theorem stored_w₂ (j : S1x16.Idx) :
    k1_pay6 (r 15) (full₁ r) (fullIx₁ r) (late₂ r) 15#32 j = weigh (lane r (ix1 (n0 := 16) (j 1))) 1 := by
  show k1_pay2 (r 15) (full₁ r) (fullIx₁ r) (late₂ r) 15#32 (Shape.reshapeEquiv shapeCasts_S16_S1x16 j) = _
  rw [row_lane, weight₂_apply]
  rfl

end Cert.Proof

end
-- ==== Proof.Tile.lean ====
/-
  One tile of the SparseCore kernel. Tile `(c, s)` fetches its 512 columns of the logits into its own memory, picks the
  two experts and computes the two weights of every column, sixteen columns per trip of its loop, and copies both back to
  the same columns of the two results. Proved once, at any tile.
-/
module

public import proofs.«01_k».proof.Proof.Scan
public import Idealize.ShloMosaic.Lib.VecWindow
public import Idealize.ShloMosaic.Lib.Writes

@[expose] public section

noncomputable section

namespace Cert.Proof

open Cert.KernelIdeal Cert.KernelIdeal.Gen

open Idealize.ShloMosaic Idealize.ShloMosaic.Tactic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## What is computed, column by column -/

/-- The two chosen experts of every column of an array of logits, -/
def chosen {n : ℕ} (lg : FVec F ⟨2, ![16, n]⟩ .f32) : IVec ⟨2, ![2, n]⟩ 32 := fun i => pick (fun e => lg (ix2 e (i 1))) (i 0)
/-- and their weights. -/
def weights {n : ℕ} (lg : FVec F ⟨2, ![16, n]⟩ .f32) : FVec F ⟨2, ![2, n]⟩ .f32 := fun i => weigh (fun e => lg (ix2 e (i 1))) (i 0)

/-! ## The tile's arrays -/

variable (d : Dev nD) (L : grid1.Coords)

/-- The SparseCore and the tile of a pair of launch coordinates. -/
abbrev cV (L : grid1.Coords) : Fin τ.nSC := (L 0).castLE hcore1
abbrev jV (L : grid1.Coords) : Fin τ.nSub := (L 1).castLE hsub1

/-- The tile's columns of the logits and of the two results, as the kernel slices them. -/
abbrev lgRect (L : grid1.Coords) : Rect S16x16384 := Rect.unit (s := S16x16384) (k1_off1 L) S16x512.size (k1_off1_inb L)
abbrev outRect (L : grid1.Coords) : Rect S2x16384 := Rect.unit (s := S2x16384) (k1_off20 L) S2x512.size (k1_off20_inb L)
abbrev lgK (L : grid1.Coords) : Memref sig .scVector .hbm S16x512 .f32 :=
  (Memref.whole main_v1_scv : Memref sig .scVector .hbm S16x16384 .f32).slice (lgRect L) (fun _ => rfl)
abbrev eK (L : grid1.Coords) : Memref sig .scVector .hbm S2x512 .i32 :=
  (Memref.whole main_v2_0_scv : Memref sig .scVector .hbm S2x16384 .i32).slice (outRect L) (fun _ => rfl)
abbrev wK (L : grid1.Coords) : Memref sig .scVector .hbm S2x512 .f32 :=
  (Memref.whole main_v2_1_scv : Memref sig .scVector .hbm S2x16384 .f32).slice (outRect L) (fun _ => rfl)

/-- The tile's own three buffers: the logits it fetched, the experts and the weights it found. -/
abbrev lgM : Memref sig .scVector .vmem S16x512 .f32 := Memref.whole cc1_scratch0
abbrev eM : Memref sig .scVector .vmem S2x512 .i32 := Memref.whole cc1_scratch1
abbrev wM : Memref sig .scVector .vmem S2x512 .f32 := Memref.whole cc1_scratch2

/-- The tile's columns of an array of logits. -/
abbrev lgCols (L : grid1.Coords) (LG : FVec F S16x16384 .f32) : FVec F S16x512 .f32 := (lgK L).view.read (Elt F) LG

/-- The three semaphores of the tile's copies. -/
abbrev cell0 : GSem nD τ sig := (V d (cV L) (jV L), .dma cc1_scoped0.sem)
abbrev cell1 : GSem nD τ sig := (V d (cV L) (jV L), .dma cc1_scoped1.sem)
abbrev cell2 : GSem nD τ sig := (V d (cV L) (jV L), .dma cc1_scoped2.sem)

/-! ## Where the pieces lie -/

/-- The first column of the tile's. -/
abbrev col0 (L : grid1.Coords) : ℕ := 1024 * (L 1).val + 512 * (L 0).val

theorem col_lt (L : grid1.Coords) (j : Fin 512) : col0 L + j.val < 16384 := by
  have h0 : (L 0).val < 2 := (L 0).isLt
  have h1 : (L 1).val < 16 := (L 1).isLt
  unfold col0; omega

theorem lg_emb (j : S16x512.Idx) : (lgRect L).emb j = ix2 (j 0) ⟨col0 L + (j 1).val, col_lt L (j 1)⟩ := by
  funext a
  apply Fin.ext
  show k1_off1 L a + 1 * (j a).val = _
  rw [k1_off1_eq]
  fin_cases a
  · show 0 + 1 * (j 0).val = (j 0).val; omega
  · show col0 L + 1 * (j 1).val = col0 L + (j 1).val; omega

theorem out_emb (j : S2x512.Idx) : (outRect L).emb j = ix2 (j 0) ⟨col0 L + (j 1).val, col_lt L (j 1)⟩ := by
  funext a
  apply Fin.ext
  show k1_off20 L a + 1 * (j a).val = _
  rw [k1_off20_eq]
  fin_cases a
  · show 0 + 1 * (j 0).val = (j 0).val; omega
  · show col0 L + 1 * (j 1).val = col0 L + (j 1).val; omega

/-- Entry `(e, j)` of the tile's columns is entry `(e, col0 + j)` of the array. -/
theorem lgCols_apply (LG : FVec F S16x16384 .f32) (e : Fin 16) (j : Fin 512) :
    lgCols L LG (ix2 e j) = LG (ix2 e ⟨col0 L + j.val, col_lt L j⟩) :=
  congrArg LG (lg_emb L (ix2 e j))

/-- So the tile's experts are the array's in its columns, -/
theorem chosen_cols (LG : FVec F S16x16384 .f32) (j : S2x512.Idx) : chosen (n := 512) (lgCols L LG) j = chosen (n := 16384) LG ((outRect L).emb j) := by
  rw [out_emb]
  exact congrArg (fun x => pick x (j 0)) (funext fun e => lgCols_apply L LG e (j 1))
/-- and so are the weights. -/
theorem weights_cols (LG : FVec F S16x16384 .f32) (j : S2x512.Idx) : weights (n := 512) (lgCols L LG) j = weights (n := 16384) LG ((outRect L).emb j) := by
  rw [out_emb]
  exact congrArg (fun x => weigh x (j 0)) (funext fun e => lgCols_apply L LG e (j 1))

/-! ## One trip of the loop -/

theorem trip_lt (t : Fin k1_t1_loop.trips) : t.val < 32 := t.isLt

theorem lane_lt (t : Fin k1_t1_loop.trips) (c : Fin 16) : 16 * t.val + c.val < 512 := by
  have := trip_lt t; omega

/-- The sixteen rows that trip `t` loads from the tile's logits `B`: columns `16 t … 16 t + 15`. -/
def rows (t : Fin k1_t1_loop.trips) (B : FVec F S16x512 .f32) (e : Fin 16) : FVec F S16 .f32 :=
  fun i => B (ix2 e ⟨16 * t.val + (i 0).val, lane_lt t (i 0)⟩)

/-- A loaded row of one by sixteen, recast to a vector of sixteen. -/
theorem loaded_row (t : Fin k1_t1_loop.trips) (B : FVec F S16x512 .f32) (e : Fin 16) (off : Fin 2 → ℕ)
    (inb : ∀ a, off a + S1x16.size a ≤ S16x512.size a) (h : off = ![e.val, 16 * t.val]) :
    shapeCast S16 ((lgM).view.readAt (Elt F) (Rect.unit (s := S16x512) off S1x16.size inb).toLoadRect B) shapeCasts_S1x16_S16
      = rows t B e := by
  subst h
  funext i
  have hj : Shape.reshapeEquiv (s := S1x16) (s' := S16) shapeCasts_S1x16_S16 i = ix2 (n0 := 1) (n1 := 16) 0 (i 0) :=
    Shape.reshapeEquiv_eq_of_rowMajor _ (by rw [rowMajor_val1, rowMajor_val2 _ 16 rfl]; show 0 * 16 + (i 0).val = _; omega)
  unfold shapeCast
  rw [hj]
  show B _ = B _
  congr 1
  funext a
  apply Fin.ext
  fin_cases a
  · show e.val + 1 * 0 = e.val; omega
  · show 16 * t.val + 1 * (i 0).val = 16 * t.val + (i 0).val; omega

/-- A lane of the loaded rows is a column of the tile's logits. -/
theorem pick_rows (t : Fin k1_t1_loop.trips) (B : FVec F S16x512 .f32) (c : Fin 16) (k : Fin 2) :
    pick (lane (rows t B) (ix1 (n0 := 16) c)) k = chosen (n := 512) B (ix2 k ⟨16 * t.val + c.val, lane_lt t c⟩) :=
  congrArg (fun x => pick x k) (funext fun _ => rfl)
theorem weigh_rows (t : Fin k1_t1_loop.trips) (B : FVec F S16x512 .f32) (c : Fin 16) (k : Fin 2) :
    weigh (lane (rows t B) (ix1 (n0 := 16) c)) k = weights (n := 512) B (ix2 k ⟨16 * t.val + c.val, lane_lt t c⟩) :=
  congrArg (fun x => weigh x k) (funext fun _ => rfl)

/-- Two rows of sixteen stored at column `16 t` of a result's buffer extend the columns at which it agrees with `G`. -/
theorem two_rows {ety : EltTy} (M : Memref sig .scVector .vmem S2x512 ety) (f : M.view.ty.Contents (Elt F)) (G : S2x512.Idx → Elt F ety)
    (t : Fin k1_t1_loop.trips) (p0 p1 : S1x16.Idx → Elt F ety)
    (h0 : ∀ j : S1x16.Idx, p0 j = G (ix2 0 ⟨16 * t.val + (j 1).val, lane_lt t (j 1)⟩))
    (h1 : ∀ j : S1x16.Idx, p1 j = G (ix2 1 ⟨16 * t.val + (j 1).val, lane_lt t (j 1)⟩))
    (hf : ∀ j : S2x512.Idx, (j 1).val < 16 * t.val → M.view.read (Elt F) f j = G j) (j : S2x512.Idx) (hj : (j 1).val < 16 * (t.val + 1)) :
    M.view.read (Elt F) (M.view.writes (Elt F) f
      [⟨Rect.unit (s := S2x512) (k1_off19 t) S1x16.size (k1_off19_inb t), p1⟩,
        ⟨Rect.unit (s := S2x512) (k1_off18 t) S1x16.size (k1_off18_inb t), p0⟩]) j = G j := by
  by_cases hlt : (j 1).val < 16 * t.val
  · rw [View.read_writes_apply_of_forall_not_mem, hf j hlt]
    intro p hp hm
    simp only [List.mem_cons, List.not_mem_nil, _root_.or_false] at hp
    rcases hp with rfl | rfl
    · have := (Rect.mem_set_unit.mp (show j ∈ (Rect.unit (s := S2x512) (k1_off19 t) S1x16.size (k1_off19_inb t)).set from hm) 1).1
      rw [k1_off19_eq] at this
      exact absurd this (Nat.not_le.2 hlt)
    · have := (Rect.mem_set_unit.mp (show j ∈ (Rect.unit (s := S2x512) (k1_off18 t) S1x16.size (k1_off18_inb t)).set from hm) 1).1
      rw [k1_off18_eq] at this
      exact absurd this (Nat.not_le.2 hlt)
  · refine View.read_writes_apply_of_pieces _ _ G _ ?_ j ?_
    · intro p hp x
      simp only [List.mem_cons, List.not_mem_nil, _root_.or_false] at hp
      rcases hp with rfl | rfl
      · refine (h1 x).trans (congrArg G ?_)
        funext a
        apply Fin.ext
        have hx : (x 0).val < 1 := (x 0).isLt
        refine Eq.trans ?_ (congrArg (· + 1 * (x a).val) (congrFun (k1_off19_eq t) a).symm)
        fin_cases a
        · show 1 = 1 + 1 * (x 0).val; omega
        · show 16 * t.val + (x 1).val = 16 * t.val + 1 * (x 1).val; omega
      · refine (h0 x).trans (congrArg G ?_)
        funext a
        apply Fin.ext
        have hx : (x 0).val < 1 := (x 0).isLt
        refine Eq.trans ?_ (congrArg (· + 1 * (x a).val) (congrFun (k1_off18_eq t) a).symm)
        fin_cases a
        · show 0 = 0 + 1 * (x 0).val; omega
        · show 16 * t.val + (x 1).val = 16 * t.val + 1 * (x 1).val; omega
    · have h2 : (j 0).val < 2 := (j 0).isLt
      by_cases hz : (j 0).val = 0
      · refine ⟨_, List.mem_cons_of_mem _ (List.mem_singleton_self _), (Rect.mem_set_unit (inb := k1_off18_inb t)).mpr fun a => ?_⟩
        rw [k1_off18_eq]
        fin_cases a
        · show 0 ≤ (j 0).val ∧ (j 0).val < 0 + 1; omega
        · show 16 * t.val ≤ (j 1).val ∧ (j 1).val < 16 * t.val + 16; omega
      · refine ⟨_, List.mem_cons_self, (Rect.mem_set_unit (inb := k1_off19_inb t)).mpr fun a => ?_⟩
        rw [k1_off19_eq]
        fin_cases a
        · show 1 ≤ (j 0).val ∧ (j 0).val < 1 + 1; omega
        · show 16 * t.val ≤ (j 1).val ∧ (j 1).val < 16 * t.val + 16; omega

/-- One trip's two rows of experts, in the body's own spelling; -/
theorem trip_chosen (t : Fin k1_t1_loop.trips) (B : FVec F S16x512 .f32) (f : IVec S2x512 32) (r : Fin 16 → FVec F S16 .f32) (hr : rows t B = r)
    (hf : ∀ j : S2x512.Idx, (j 1).val < 16 * t.val → f j = chosen (n := 512) B j) (j : S2x512.Idx) (hj : (j 1).val < 16 * (t.val + 1)) :
    (eM).view.read (Elt F) ((eM).view.writes (Elt F) f
      [⟨Rect.unit (s := S2x512) (k1_off19 t) S1x16.size (k1_off19_inb t), k1_pay4 (r 15) (fullIx₁ r) (late₂ r) (lateIx₂ r) 15#32⟩,
        ⟨Rect.unit (s := S2x512) (k1_off18 t) S1x16.size (k1_off18_inb t), k1_pay3 (fullIx₁ r)⟩]) j = chosen (n := 512) B j := by
  subst hr
  exact two_rows (F := F) eM f (chosen (n := 512) B) t (k1_pay3 (fullIx₁ (rows t B)))
    (k1_pay4 (rows t B 15) (fullIx₁ (rows t B)) (late₂ (rows t B)) (lateIx₂ (rows t B)) 15#32)
    (fun j => (stored_ix₁ (rows t B) j).trans (pick_rows t B (j 1) 0))
    (fun j => (stored_ix₂ (rows t B) j).trans (pick_rows t B (j 1) 1)) hf j hj

/-- and its two rows of weights. -/
theorem trip_weights (t : Fin k1_t1_loop.trips) (B : FVec F S16x512 .f32) (f : FVec F S2x512 .f32) (r : Fin 16 → FVec F S16 .f32) (hr : rows t B = r)
    (hf : ∀ j : S2x512.Idx, (j 1).val < 16 * t.val → f j = weights (n := 512) B j) (j : S2x512.Idx) (hj : (j 1).val < 16 * (t.val + 1)) :
    (wM).view.read (Elt F) ((wM).view.writes (Elt F) f
      [⟨Rect.unit (s := S2x512) (k1_off19 t) S1x16.size (k1_off19_inb t), k1_pay6 (r 15) (full₁ r) (fullIx₁ r) (late₂ r) 15#32⟩,
        ⟨Rect.unit (s := S2x512) (k1_off18 t) S1x16.size (k1_off18_inb t), k1_pay5 (r 15) (full₁ r) (fullIx₁ r) (late₂ r) 15#32⟩]) j = weights (n := 512) B j := by
  subst hr
  exact two_rows (F := F) wM f (weights (n := 512) B) t (k1_pay5 (rows t B 15) (full₁ (rows t B)) (fullIx₁ (rows t B)) (late₂ (rows t B)) 15#32)
    (k1_pay6 (rows t B 15) (full₁ (rows t B)) (fullIx₁ (rows t B)) (late₂ (rows t B)) 15#32)
    (fun j => (stored_w₁ (rows t B) j).trans (weigh_rows t B (j 1) 0))
    (fun j => (stored_w₂ (rows t B) j).trans (weigh_rows t B (j 1) 1)) hf j hj

/-- A whole view written with what `g` reads through it holds `g` there. -/
theorem landed {κ : Kind} {sp : Space} {s : Shape} {ety : EltTy} (v : View sig κ sp s ety) (f g : v.ty.Contents (Elt F)) (p : s.Idx → Elt F ety)
    (h : ∀ j, p j = v.read (Elt F) g j) : ∀ i ∈ v.set, v.writes (Elt F) f [⟨Rect.whole s, p⟩] i = g i := by
  intro i hi
  obtain ⟨j, rfl⟩ := View.exists_emb_of_mem_set _ hi
  have := (View.read_writes_cons_hit v f (Rect.whole s) p [] j j (Rect.emb_whole_apply s j)).trans (h j)
  exact cast_inj _ |>.mp this

/-! ## The tile's resources -/

theorem ownSems0_V :
    (ownSems0 (V d (cV L) (jV L)) : sProp 𝕄)
      = iprop(semVal (cell0 d L) 0 ∗ semVal (cell1 d L) 0 ∗ semVal (cell2 d L) 0
          ∗ bigSep ((((ownCells (V d (cV L) (jV L))).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc1_scoped2.sem : SemLoc sig).isScoped .scVector = true; decide⟩⟩⟩)]

/-- The tile's own buffers are the three the kernel names, each at some contents, and the rest. -/
theorem ownBufs_V :
    (ownBufs (V d (cV L) (jV L)) : sProp 𝕄)
      = iprop((∃ f, (lgM).view.loc (V d (cV L) (jV L)) ↦{fullShare} f) ∗ (∃ f, (eM).view.loc (V d (cV L) (jV L)) ↦{fullShare} f)
          ∗ (∃ f, (wM).view.loc (V d (cV L) (jV L)) ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

/-! ## The run -/

/-- What one tile is handed: its columns of the logits, and of the two results at some contents; -/
abbrev handed (LG : FVec F S16x16384 .f32) (e : Buf (Elt F) (eLoc d)) (w : Buf (Elt F) (wLoc d)) : sProp 𝕄 :=
  iprop(((lgK L).view.loc (V d (cV L) (jV L)) ↦[(lgK L).view.set]{fullShare} LG)
    ∗ ((eK L).view.loc (V d (cV L) (jV L)) ↦[(eK L).view.set]{fullShare} e)
    ∗ ((wK L).view.loc (V d (cV L) (jV L)) ↦[(wK L).view.set]{fullShare} w))

/-- Before trip `k`, the first `16 k` columns hold the experts and the weights. -/
def inv (B : FVec F S16x512 .f32) (k : ℕ) (_ : PUnit) : sProp 𝕄 :=
  iprop(((lgM).view.loc (V d (cV L) (jV L)) ↦{fullShare} B)
    ∗ (∃ f : IVec S2x512 32, ⌜∀ j : S2x512.Idx, (j 1).val < 16 * k → f j = chosen (n := 512) B j⌝ ∗ (eM).view.loc (V d (cV L) (jV L)) ↦{fullShare} f)
    ∗ (∃ f : FVec F S2x512 .f32, ⌜∀ j : S2x512.Idx, (j 1).val < 16 * k → f j = weights (n := 512) B j⌝ ∗ (wM).view.loc (V d (cV L) (jV L)) ↦{fullShare} f))

set_option maxHeartbeats 1000000 in
theorem tile_body (LG : FVec F S16x16384 .f32) (e : Buf (Elt F) (eLoc d)) (w : Buf (Elt F) (wLoc d))
    (O : CellTallies nD τ sig (HIx 1)) (W : Waits sig (HIx 1)) (hO : ∀ g, O g none = 0) :
    iprop(levAts (K (F := F)).L (K (F := F)).lev ∗ emp ∗ handed d L LG e w
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_select L (Memref.whole main_v1_scv) (Memref.isWhole_whole _) (Memref.whole main_v2_0_scv) (Memref.isWhole_whole _)
            (Memref.whole main_v2_1_scv) (Memref.isWhole_whole _) (Memref.whole cc1_scratch0) (Memref.isWhole_whole _)
            (Memref.whole cc1_scratch1) (Memref.isWhole_whole _) (Memref.whole cc1_scratch2) (Memref.isWhole_whole _)
            cc1_scoped0 cc1_scoped1 cc1_scoped2)
          fun _ => iprop(handed d L LG (chosen (n := 16384) LG) (weights (n := 16384) LG)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1_sc_select_eq_skeleton]; unfold cc1_sc_select_skel
  rw [(K (F := F)).scopedBufs_V facts d (cV L) (jV L), SparseCore.Cfg.scopedSems0_V (Val := Elt F) d (cV L) (jV L), ownSems0_V, ownBufs_V]
  iintro ⟨#Hlv, -, ⟨Hlg, He, Hw⟩, ⟨⟨%f0, Hf0⟩, ⟨%f1, Hf1⟩, ⟨%f2, Hf2⟩, Hbufs⟩, ⟨Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec (disch := exact View.amount_pos _ _ (show 0 < S16x512.numel by decide))
  sl_unfold_run_names
  ihave Hf0 := (Entails.of_eq (congrArg (fun f : Buf (Elt F) ((lgM).view.loc (V d (cV L) (jV L))) =>
    ((lgM).view.loc (V d (cV L) (jV L)) ↦{fullShare} f : sProp 𝕄)) (show (Memref.whole cc1_scratch0).view.write (Elt F) f0 (lgCols L LG) Finset.univ = lgCols L LG from
      View.write_whole_univ cc1_scratch0 f0 (lgCols L LG)))) $$ Hf0
  sl_for (inv d L (lgCols L LG)) $$ [Hf0 Hf1 Hf2]
  case region =>
    intro t _
    unfold inv
    iintro ⟨H0, ⟨%f1, %hf1, H1⟩, ⟨%f2, %hf2, H2⟩⟩
    sl_exec
    sl_step
    have e0 := loaded_row (F := F) t (lgCols L LG) 0 _ (k1_off2_inb t) (k1_off2_eq t)
    have e1 := loaded_row (F := F) t (lgCols L LG) 1 _ (k1_off3_inb t) (k1_off3_eq t)
    have e2 := loaded_row (F := F) t (lgCols L LG) 2 _ (k1_off4_inb t) (k1_off4_eq t)
    have e3 := loaded_row (F := F) t (lgCols L LG) 3 _ (k1_off5_inb t) (k1_off5_eq t)
    have e4 := loaded_row (F := F) t (lgCols L LG) 4 _ (k1_off6_inb t) (k1_off6_eq t)
    have e5 := loaded_row (F := F) t (lgCols L LG) 5 _ (k1_off7_inb t) (k1_off7_eq t)
    have e6 := loaded_row (F := F) t (lgCols L LG) 6 _ (k1_off8_inb t) (k1_off8_eq t)
    have e7 := loaded_row (F := F) t (lgCols L LG) 7 _ (k1_off9_inb t) (k1_off9_eq t)
    have e8 := loaded_row (F := F) t (lgCols L LG) 8 _ (k1_off10_inb t) (k1_off10_eq t)
    have e9 := loaded_row (F := F) t (lgCols L LG) 9 _ (k1_off11_inb t) (k1_off11_eq t)
    have e10 := loaded_row (F := F) t (lgCols L LG) 10 _ (k1_off12_inb t) (k1_off12_eq t)
    have e11 := loaded_row (F := F) t (lgCols L LG) 11 _ (k1_off13_inb t) (k1_off13_eq t)
    have e12 := loaded_row (F := F) t (lgCols L LG) 12 _ (k1_off14_inb t) (k1_off14_eq t)
    have e13 := loaded_row (F := F) t (lgCols L LG) 13 _ (k1_off15_inb t) (k1_off15_eq t)
    have e14 := loaded_row (F := F) t (lgCols L LG) 14 _ (k1_off16_inb t) (k1_off16_eq t)
    have e15 := loaded_row (F := F) t (lgCols L LG) 15 _ (k1_off17_inb t) (k1_off17_eq t)
    isplitl [H0]; · iexact H0
    isplitl [H1]
    · iexists _; isplitr
      swap; · iexact H1
      ipureintro
      sl_unfold_run_names
      simp only [k1_pay7, k1_pay8, k1_pay9, k1_pay10, k1_pay11, k1_pay12, k1_pay13, k1_pay14, k1_pay15, k1_pay16, k1_pay17, k1_pay18, k1_pay19, k1_pay20, k1_pay21, k1_pay22, e0, e1, e2, e3, e4, e5, e6, e7, e8, e9, e10, e11, e12, e13, e14, e15]
      generalize hr : rows t (lgCols L LG) = r
      exact trip_chosen t _ f1 r hr hf1
    · iexists _; isplitr
      swap; · iexact H2
      ipureintro
      sl_unfold_run_names
      simp only [k1_pay7, k1_pay8, k1_pay9, k1_pay10, k1_pay11, k1_pay12, k1_pay13, k1_pay14, k1_pay15, k1_pay16, k1_pay17, k1_pay18, k1_pay19, k1_pay20, k1_pay21, k1_pay22, e0, e1, e2, e3, e4, e5, e6, e7, e8, e9, e10, e11, e12, e13, e14, e15]
      generalize hr : rows t (lgCols L LG) = r
      exact trip_weights t _ f2 r hr hf2
  · unfold inv
    isplitl [Hf0]; · iexact Hf0
    isplitl [Hf1]
    · iexists _; isplitr
      swap; · iexact Hf1
      ipureintro; intro j hj; exact absurd hj (Nat.not_lt_zero _)
    · iexists _; isplitr
      swap; · iexact Hf2
      ipureintro; intro j hj; exact absurd hj (Nat.not_lt_zero _)
  iintro %_ HI
  unfold inv
  icases HI with ⟨Hf0, ⟨%g1, %hg1, Hf1⟩, ⟨%g2, %hg2, Hf2⟩⟩
  obtain rfl : g1 = chosen (n := 512) (lgCols L LG) := funext fun j => hg1 j (j 1).isLt
  obtain rfl : g2 = weights (n := 512) (lgCols L LG) := funext fun j => hg2 j (j 1).isLt
  sl_exec (disch := exact View.amount_pos _ _ (show 0 < S2x512.numel by decide))
  sl_step
  sl_unfold_run_names
  isplitl [Hlg He Hw]
  · isplitl [Hlg]; · iexact Hlg
    isplitl [He]
    · ihave He' := (Entails.of_eq (pointsTo_congr (landed (eK L).view e (chosen (n := 16384) LG) _ (chosen_cols L LG)))) $$ He
      iexact He'
    · ihave Hw' := (Entails.of_eq (pointsTo_congr (landed (wK L).view w (weights (n := 16384) LG) _ (weights_cols L LG)))) $$ Hw
      iexact Hw'
  isplitl [Hf0 Hf1 Hf2 Hbufs]
  · isplitl [Hf0]; · iexists _; iexact Hf0
    isplitl [Hf1]; · iexists _; iexact Hf1
    isplitl [Hf2]; · iexists _; iexact Hf2
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p _
  rcases p.2 with _ | q
  · exact .inr (.inl rfl)
  · exact .inr (.inr (congrArg some (Subsingleton.elim q 0)))

end Cert.Proof

end
-- ==== Proof.Split.lean ====
/-
  The SparseCore call's operands among its thirty-two tiles, and the call's obligations.

  Tile `(c, i)` takes columns `1024 i + 512 c … + 511` of the logits and of the two results. These blocks are disjoint
  and cover the arrays, so that the three arrays whole are the thirty-two tiles' pieces, before the call and after it.
-/
module

public import proofs.«01_k».proof.Proof.Tile

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The blocks of columns -/

/-- The launch coordinates of SparseCore `c`'s tile `i`. -/
def coordsV (c : Fin (grid1.bound 0)) (s : Fin (grid1.bound 1)) : grid1.Coords :=
  fun | 0 => c | 1 => s | ⟨_ + 2, h⟩ => absurd h (Nat.not_lt.2 (Nat.le_add_left _ _))

/-- The tiles, by SparseCore and number. -/
abbrev Tiles : Type := Fin 2 × Fin 16
abbrev at_ (p : Tiles) : grid1.Coords := coordsV p.1 p.2

abbrev lgSet (p : Tiles) : Finset S16x16384.Idx := (lgK (at_ p)).view.set
abbrev outSet (p : Tiles) : Finset S2x16384.Idx := (eK (at_ p)).view.set

theorem mem_lgSet (p : Tiles) (j : S16x16384.Idx) :
    Iff (j ∈ lgSet p) (1024 * p.2.val + 512 * p.1.val ≤ (j 1).val ∧ (j 1).val < 1024 * p.2.val + 512 * p.1.val + 512) := by
  have hs : lgSet p = (lgRect (at_ p)).set := by
    show ((View.whole (main_v1_scv : Ref sig .scVector)).slice (lgRect (at_ p))).set = _
    rw [View.set_slice]; exact Finset.map_refl
  rw [hs]
  refine (Rect.mem_set_unit (inb := k1_off1_inb (at_ p))).trans ?_
  rw [k1_off1_eq]
  constructor
  · exact fun h => h 1
  · intro h a
    fin_cases a
    · exact ⟨Nat.zero_le _, (show (j 0).val < 0 + 16 from by have : (j 0).val < 16 := (j 0).isLt; omega)⟩
    · exact h

theorem mem_outSet (p : Tiles) (j : S2x16384.Idx) :
    Iff (j ∈ outSet p) (1024 * p.2.val + 512 * p.1.val ≤ (j 1).val ∧ (j 1).val < 1024 * p.2.val + 512 * p.1.val + 512) := by
  have hs : outSet p = (outRect (at_ p)).set := by
    show ((View.whole (main_v2_0_scv : Ref sig .scVector)).slice (outRect (at_ p))).set = _
    rw [View.set_slice]; exact Finset.map_refl
  rw [hs]
  refine (Rect.mem_set_unit (inb := k1_off20_inb (at_ p))).trans ?_
  rw [k1_off20_eq]
  constructor
  · exact fun h => h 1
  · intro h a
    fin_cases a
    · exact ⟨Nat.zero_le _, (show (j 0).val < 0 + 2 from by have : (j 0).val < 2 := (j 0).isLt; omega)⟩
    · exact h

/-- Two tiles whose blocks share a column are one tile, -/
theorem tile_unique {p q : Tiles} {n : ℕ} (hp : 1024 * p.2.val + 512 * p.1.val ≤ n ∧ n < 1024 * p.2.val + 512 * p.1.val + 512)
    (hq : 1024 * q.2.val + 512 * q.1.val ≤ n ∧ n < 1024 * q.2.val + 512 * q.1.val + 512) : p = q := by
  obtain ⟨⟨a, ha⟩, ⟨b, hb⟩⟩ := p
  obtain ⟨⟨c, hc⟩, ⟨e, he⟩⟩ := q
  simp only at hp hq
  have h1 : a = c := by omega
  have h2 : b = e := by omega
  subst h1 h2; rfl

/-- and every column is some tile's. -/
theorem tile_exists (n : ℕ) (hn : n < 16384) :
    ∃ p : Tiles, 1024 * p.2.val + 512 * p.1.val ≤ n ∧ n < 1024 * p.2.val + 512 * p.1.val + 512 :=
  ⟨(⟨n / 512 % 2, by omega⟩, ⟨n / 1024, by omega⟩), by simp only; omega⟩

theorem lg_disjoint : ∀ p ∈ (Finset.univ : Finset Tiles), ∀ q ∈ (Finset.univ : Finset Tiles), p ≠ q → Disjoint (lgSet p) (lgSet q) :=
  fun p _ q _ h => Finset.disjoint_left.mpr fun j hp hq => h (tile_unique ((mem_lgSet p j).mp hp) ((mem_lgSet q j).mp hq))
theorem out_disjoint : ∀ p ∈ (Finset.univ : Finset Tiles), ∀ q ∈ (Finset.univ : Finset Tiles), p ≠ q → Disjoint (outSet p) (outSet q) :=
  fun p _ q _ h => Finset.disjoint_left.mpr fun j hp hq => h (tile_unique ((mem_outSet p j).mp hp) ((mem_outSet q j).mp hq))
theorem lg_cover : (Finset.univ : Finset Tiles).biUnion lgSet = Finset.univ :=
  Finset.eq_univ_iff_forall.mpr fun j => by
    obtain ⟨p, hp⟩ := tile_exists (j 1).val (j 1).isLt
    exact Finset.mem_biUnion.mpr ⟨p, Finset.mem_univ _, (mem_lgSet p j).mpr hp⟩
theorem out_cover : (Finset.univ : Finset Tiles).biUnion outSet = Finset.univ :=
  Finset.eq_univ_iff_forall.mpr fun j => by
    obtain ⟨p, hp⟩ := tile_exists (j 1).val (j 1).isLt
    exact Finset.mem_biUnion.mpr ⟨p, Finset.mem_univ _, (mem_outSet p j).mpr hp⟩

variable (d : Dev nD)

/-- Each array whole is the tiles' blocks of it. -/
theorem lg_split (f : Buf (Elt F) (lgLoc d)) :
    (lgLoc d ↦{fullShare} f : sProp 𝕄) = bigSep Finset.univ fun p : Tiles => lgLoc d ↦[lgSet p]{fullShare} f := by
  rw [← pointsTo_biUnion Finset.univ (ℓ := lgLoc d) lgSet lg_disjoint, lg_cover]; try rfl
theorem e_split (f : Buf (Elt F) (eLoc d)) :
    (eLoc d ↦{fullShare} f : sProp 𝕄) = bigSep Finset.univ fun p : Tiles => eLoc d ↦[outSet p]{fullShare} f := by
  rw [← pointsTo_biUnion Finset.univ (ℓ := eLoc d) outSet out_disjoint, out_cover]; try rfl
theorem w_split (f : Buf (Elt F) (wLoc d)) :
    (wLoc d ↦{fullShare} f : sProp 𝕄) = bigSep Finset.univ fun p : Tiles => wLoc d ↦[outSet p]{fullShare} f := by
  rw [← pointsTo_biUnion Finset.univ (ℓ := wLoc d) outSet out_disjoint, out_cover]; try rfl

/-- The three arrays whole are what the thirty-two tiles are handed. -/
theorem arrays_split (LG : FVec F S16x16384 .f32) (e : Buf (Elt F) (eLoc d)) (w : Buf (Elt F) (wLoc d)) :
    (iprop((lgLoc d ↦{fullShare} LG) ∗ (eLoc d ↦{fullShare} e) ∗ (wLoc d ↦{fullShare} w)) : sProp 𝕄)
      = bigSep Finset.univ fun c : Fin 2 => bigSep Finset.univ fun i : Fin 16 => handed d (coordsV c i) LG e w := by
  rw [lg_split, e_split, w_split, ← bigSep_sep', ← bigSep_sep']
  exact bigSep_univ_prod (fun p : Tiles => (handed d (at_ p) LG e w : sProp 𝕄))

/-! ## What the handshakes carry -/

variable [FloatOps F]
variable (m : (ℓ : Loc nD τ sig) → Buf (Elt F) ℓ) (LG : Dev nD → FVec F S16x16384 .f32)

/-- A tile's share before its run, the results' columns as the launch left them, -/
abbrev before (c : Fin 2) (i : Fin 16) : sProp 𝕄 := handed d (coordsV c i) (LG d) (m (eLoc d)) (m (wLoc d))
/-- and after it, with the experts and the weights of the logits in place. -/
abbrev after (c : Fin 2) (i : Fin 16) : sProp 𝕄 := handed d (coordsV c i) (LG d) (chosen (n := 16384) (LG d)) (weights (n := 16384) (LG d))

def P : (K (F := F)).Pay (nD := nD) (Val := Elt F) (Name := ℕ) (U := UU) where
  st := fun q d c => match q with | 0 => bigSep Finset.univ fun i : Fin 16 => before d m LG c i
  dn := fun q d c => match q with | 0 => bigSep Finset.univ fun i : Fin 16 => after d LG c i
  go := fun q d c i => match q with | 0 => before d m LG c i
  td := fun q d c i => match q with | 0 => after d LG c i
  x := fun _ _ => iprop(emp)

instance P_storable : (P (F := F) m LG).IsStorable where
  st q d c := match q with
    | 0 => (inferInstance : BI.Storable (upEmb : UEmb _ 𝕄) (bigSep Finset.univ fun i : Fin 16 => before d m LG c i))
  dn q d c := match q with
    | 0 => (inferInstance : BI.Storable (upEmb : UEmb _ 𝕄) (bigSep Finset.univ fun i : Fin 16 => after d LG c i))
  go q d c i := match q with
    | 0 => (inferInstance : BI.Storable (upEmb : UEmb _ 𝕄) (before d m LG c i))
  td q d c i := match q with
    | 0 => (inferInstance : BI.Storable (upEmb : UEmb _ 𝕄) (after d LG c i))

/-! ## The obligations -/

theorem defs₀_vector (c : Fin τ.nSC) (s : Fin τ.nSub) :
    defs₀ (F := F) (.scVector c s) 1 ()
      = SparseCore.onTile hcore1 hsub1 (fun c s => cc1_sc_select (coordsV c s)
          (Memref.whole main_v1_scv) (Memref.isWhole_whole _) (Memref.whole main_v2_0_scv) (Memref.isWhole_whole _)
            (Memref.whole main_v2_1_scv) (Memref.isWhole_whole _) (Memref.whole cc1_scratch0) (Memref.isWhole_whole _)
            (Memref.whole cc1_scratch1) (Memref.isWhole_whole _) (Memref.whole cc1_scratch2) (Memref.isWhole_whole _)
            cc1_scoped0 cc1_scoped1 cc1_scoped2) ⟨⟩ c s := rfl

/-- Every tile's task, from its share before to its share after. -/
theorem tileObl : (K (F := F)).TileObl (D (F := F)) 𝒱 (P m LG) v₀ 0 := by
  intro d c i O W hO _ _
  simp only [show (P m LG).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (LG d) (m (eLoc d)) (m (wLoc d)) O W hO

/-- A SparseCore's share is its sixteen tiles'. -/
theorem vecSplit : (K (F := F)).VecSplit' (P m LG) 0 := by
  intro d c
  show (bigSep Finset.univ fun i : Fin 16 => before d m LG c i) ⊢ |={Set.univ}=> iprop(
      (bigSep Finset.univ fun i : Fin 16 => before d m LG c i)
      ∗ ((bigSep Finset.univ fun i : Fin 16 => after d LG c i) -∗ bigSep Finset.univ fun i : Fin 16 => after d LG c i))
  iintro H; imodintro
  isplitl [H]; · iexact H
  iintro H; iexact H

/-- What the call takes for both SparseCores: the three arrays; -/
theorem st0_eq (d : Dev nD) : (bigSep Finset.univ fun c : Fin ((K (F := F)).nCore 0) => (P m LG).st 0 d c)
    = iprop((lgLoc d ↦{fullShare} LG d) ∗ (eLoc d ↦{fullShare} m (eLoc d)) ∗ (wLoc d ↦{fullShare} m (wLoc d))) :=
  (arrays_split d (LG d) (m (eLoc d)) (m (wLoc d))).symm
/-- what it hands back: the same, the results in place. -/
theorem dn0_eq (d : Dev nD) : (bigSep Finset.univ fun c : Fin ((K (F := F)).nCore 0) => (P m LG).dn 0 d c)
    = iprop((lgLoc d ↦{fullShare} LG d) ∗ (eLoc d ↦{fullShare} (chosen (n := 16384) (LG d) : IVec S2x16384 32))
        ∗ (wLoc d ↦{fullShare} (weights (n := 16384) (LG d) : FVec F S2x16384 .f32))) :=
  (arrays_split d (LG d) (chosen (n := 16384) (LG d)) (weights (n := 16384) (LG d))).symm

end Cert.Proof

end
-- ==== Proof.LogitsBody.lean ====
/-
  One grid point of the TensorCore kernel. At the first point it normalises the prototypes into its scratch buffer, at
  every point it reads a block of 2048 tokens and the scratch and leaves the block's logits, transposed, in the result's
  staging buffer.
-/
module

public import proofs.«01_k».proof.Proof.Setup
public import Idealize.ShloMosaic.Lib.VecWindow

@[expose] public section

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The scratch buffer that holds the normalised prototypes. -/
abbrev pnM : Memref sig .tc .vmem S16x2048 .f32 := Memref.whole cc0_scratch0

theorem off_zero : (![0, 0] : Fin 2 → Nat) = fun _ => 0 := funext fun a => by fin_cases a <;> rfl

/-- The branch condition of the kernel: the grid point is the first one. -/
theorem first_iff (i : grid0.Coords) :
    Iff (Scalar.cmpi .ne (Scalar.extui (Scalar.cmpi .eq (BitVec.ofNat 32 (i 0).val) 0#32) : BitVec 32) 0#32 = 1#1) ((i 0).val = 0) := by
  have h : (i 0).val < 8 := (i 0).isLt
  generalize (i 0).val = n at h
  interval_cases n <;> decide

/-- The first grid point: the scratch is filled with the normalised prototypes, and the block's logits are computed from
    them. -/
theorem body_first (c : Dev nD) (i : grid0.Coords) (hi : (i 0).val = 0)
    (M0 : Memref sig .tc .vmem S2048x2048 .f32) (h0 : M0.IsWhole) (M1 : Memref sig .tc .vmem S16x2048 .f32) (h1 : M1.IsWhole)
    (M2 : Memref sig .tc .vmem S16x2048 .f32) (h2 : M2.IsWhole) (h3 : (pnM).IsWhole)
    (X : Vec F S2048x2048 .f32) (P : Vec F S16x2048 .f32) (Y Z : Vec F S16x2048 .f32) (Q : PUnit → sProp 𝕄) :
    iprop(owns (c : Thread nD τ) M0 fullShare X ∗ owns (c : Thread nD τ) M1 fullShare P ∗ owns (c : Thread nD τ) M2 fullShare Y
        ∗ owns (c : Thread nD τ) pnM fullShare Z
        ∗ (iprop(owns (c : Thread nD τ) M0 fullShare X ∗ owns (c : Thread nD τ) M1 fullShare P
            ∗ owns (c : Thread nD τ) M2 fullShare (k0_pay2 X (k0_pay1 P)) ∗ owns (c : Thread nD τ) pnM fullShare (k0_pay1 P)) -∗ Q ⟨⟩))
      ⊢ wp frame (wpE (defs₀ (F := F)) 𝒱₀ (c : Thread nD τ) none) Set.univ (cc0__logits_body i M0 h0 M1 h1 M2 h2 pnM h3) Q := by
  have k0_h1 := (first_iff i).mpr hi
  simp only [cc0__logits_body_eq_skeleton]; unfold cc0__logits_body_skel
  unfold owns
  iintro ⟨⟨%f0, %hf0, H0⟩, ⟨%f1, %hf1, H1⟩, ⟨%f2, %hf2, H2⟩, ⟨%f3, %hf3, H3⟩, Hk⟩
  sl_exec
  sl_step
  iapply Hk
  isplitl [H0]; · iexists f0; isplitr; (· ipureintro; exact hf0); iexact H0
  isplitl [H1]; · iexists f1; isplitr; (· ipureintro; exact hf1); iexact H1
  isplitl [H2]
  · iexists _; isplitr; swap; (· iexact H2); ipureintro
    sl_unfold_run_names
    subst hf0 hf1
    rw [View.read_writes_full, View.readAt_full, View.readCov_unit_zero _ off_zero, View.readAt_full]
  iexists _; isplitr; swap; (· iexact H3); ipureintro
  sl_unfold_run_names
  subst hf1
  rw [View.read_writes_full, View.readAt_full]

/-- A later grid point: the scratch already holds the normalised prototypes. -/
theorem body_later (c : Dev nD) (i : grid0.Coords) (hi : (i 0).val ≠ 0)
    (M0 : Memref sig .tc .vmem S2048x2048 .f32) (h0 : M0.IsWhole) (M1 : Memref sig .tc .vmem S16x2048 .f32) (h1 : M1.IsWhole)
    (M2 : Memref sig .tc .vmem S16x2048 .f32) (h2 : M2.IsWhole) (h3 : (pnM).IsWhole)
    (X : Vec F S2048x2048 .f32) (P : Vec F S16x2048 .f32) (Y Z : Vec F S16x2048 .f32) (Q : PUnit → sProp 𝕄) :
    iprop(owns (c : Thread nD τ) M0 fullShare X ∗ owns (c : Thread nD τ) M1 fullShare P ∗ owns (c : Thread nD τ) M2 fullShare Y
        ∗ owns (c : Thread nD τ) pnM fullShare Z
        ∗ (iprop(owns (c : Thread nD τ) M0 fullShare X ∗ owns (c : Thread nD τ) M1 fullShare P
            ∗ owns (c : Thread nD τ) M2 fullShare (k0_pay2 X Z) ∗ owns (c : Thread nD τ) pnM fullShare Z) -∗ Q ⟨⟩))
      ⊢ wp frame (wpE (defs₀ (F := F)) 𝒱₀ (c : Thread nD τ) none) Set.univ (cc0__logits_body i M0 h0 M1 h1 M2 h2 pnM h3) Q := by
  have k0_h1 := mt (first_iff i).mp hi
  simp only [cc0__logits_body_eq_skeleton]; unfold cc0__logits_body_skel
  unfold owns
  iintro ⟨⟨%f0, %hf0, H0⟩, ⟨%f1, %hf1, H1⟩, ⟨%f2, %hf2, H2⟩, ⟨%f3, %hf3, H3⟩, Hk⟩
  sl_exec
  sl_step
  iapply Hk
  isplitl [H0]; · iexists f0; isplitr; (· ipureintro; exact hf0); iexact H0
  isplitl [H1]; · iexists f1; isplitr; (· ipureintro; exact hf1); iexact H1
  isplitl [H2]
  · iexists _; isplitr; swap; (· iexact H2); ipureintro
    subst hf0 hf3
    rw [View.read_writes_full, View.readAt_full, View.readAt_full]
  iexists f3; isplitr; swap; (· iexact H3); ipureintro; exact hf3

end Cert.Proof

end
-- ==== Proof.LogitsRegion.lean ====
/-
  The TensorCore kernel over its grid: what its result array holds when the pipeline has run, and the step @main takes
  over it, stated from every array of the TensorCore at given contents to the same with the logits in place.

  The TensorCore runs the kernel while it owes the SparseCores their start signals. The waits of the pipeline are at the
  index of level zero, under everything owed, and what they record stays at that level.
-/
module

public import proofs.«01_k».proof.Proof.LogitsBody

@[expose] public section

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MM F

/-- Contents of every TensorCore array and buffer. -/
abbrev TCVal (F : FTy → Type) : Type := (c : Dev nD) → (b : Ref sig .tc) → Buf (Elt F) ((c : Thread nD τ).loc b)

variable (Vin : TCVal F)

/-- The block of tokens fetched at point `t`, -/
abbrev tokens (c : Dev nD) (t : Fin cfg0.N) : Vec F S2048x2048 .f32 := ((cfg0.win 0).blk t).view.read (Elt F) (Vin c main_v0)
/-- the prototypes as fetched, -/
abbrev protos (c : Dev nD) (t : Fin cfg0.N) : Vec F S16x2048 .f32 := ((cfg0.win 1).blk t).view.read (Elt F) (Vin c main_arg1)
/-- and normalised. -/
abbrev pn (c : Dev nD) : FVec F S16x2048 .f32 := k0_pay1 (Vin c main_arg1)

/-- The level-zero pairs: all a TensorCore has recorded before its first SparseCore call. -/
def lowPairs (c : Dev nD) : Set (SemLoc sig × HIx 1) := fun p => (K (F := F)).lev ((c : Thread nD τ), p.1) p.2 ≤ 0

/-- The scratch before point `n`: anything before the first, the normalised prototypes after it. -/
def scratchAt (c : Dev nD) (n : ℕ) : sProp 𝕄 :=
  iprop(∃ Z : Vec F S16x2048 .f32, ⌜n ≠ 0 → Z = pn Vin c⌝ ∗ owns (c : Thread nD τ) pnM fullShare Z)

/-- The pipeline's proof data. -/
def dat (c : Dev nD) : Dat τ (Elt F) (HIx 1) ℕ UU ℕ cfg0 c where
  A w := Vin c (Pipeline.arrRef spec0 w)
  after w t := match w with
    | ⟨0, _⟩ => tokens Vin c t
    | ⟨1, _⟩ => protos Vin c t
    | ⟨2, _⟩ => k0_pay2 (tokens Vin c t) (pn Vin c)
  Φ t := scratchAt Vin c t.val
  q _ := fullShare
  owed _ := (K (F := F)).Otc c 0
  recorded _ := lowPairs (F := F) c

theorem index_protos (t : Fin cfg0.N) : win0_1.index t 0 = 0 ∧ win0_1.index t 1 = 0 := by
  rcases fin_N0 t with rfl | rfl | rfl | rfl | rfl | rfl | rfl | rfl <;> decide +kernel

theorem protos_eq (c : Dev nD) (t : Fin cfg0.N) : protos Vin c t = Vin c main_arg1 := by
  funext j
  show Vin c main_arg1 (((cfg0.win 1).blk t).view.emb j) = Vin c main_arg1 j
  congr 1
  funext a
  have e := index_protos t
  fin_cases a
  · apply Fin.ext; blk_simp [e.1]
  · apply Fin.ext; blk_simp [e.2]

theorem coord_eq (t : Fin cfg0.N) : (grid0.coords t 0).val = t.val := by
  rcases fin_N0 t with rfl | rfl | rfl | rfl | rfl | rfl | rfl | rfl <;> decide +kernel

theorem before_tokens (c : Dev nD) (t : Fin cfg0.N) (d) : (dat Vin c).before 0 t d = tokens Vin c t :=
  ((dat Vin c).before_in_eq_fetched 0 rfl (fun _ => rfl) (fun _ _ _ => rfl) (fun _ => rfl) t d).trans rfl

theorem before_protos (c : Dev nD) (t : Fin cfg0.N) (d) : (dat Vin c).before 1 t d = protos Vin c t :=
  ((dat Vin c).before_in_eq_fetched 1 rfl (fun _ => rfl) (fun _ _ _ => rfl) (fun _ => rfl) t d).trans rfl

theorem body_obligation (c : Dev nD) : BodyObligation (dat Vin c) (defs₀ (F := F)) 𝒱₀ (none : HIx 1) Set.univ := fun t => by
  rw [bigSep_W0, bigSep_W0]
  rw [show (dat Vin c).Φ t.castSucc = scratchAt Vin c t.val from rfl, show (dat Vin c).Φ t.succ = scratchAt Vin c (t.val + 1) from rfl,
    show (dat Vin c).owesAt none t.succ = (dat Vin c).owesAt none t.castSucc from rfl]
  show iprop(scratchAt Vin c t.val ∗ (dat Vin c).owesAt none t.castSucc
      ∗ (∃ d, owns (c : Thread nD τ) (st0_0 t) fullShare ((dat Vin c).before 0 t d)) ∗ (∃ d, owns (c : Thread nD τ) (st0_1 t) fullShare ((dat Vin c).before 1 t d))
      ∗ (∃ d, owns (c : Thread nD τ) (st0_2 t) fullShare ((dat Vin c).before 2 t d)))
    ⊢ wp frame (wpE (defs₀ (F := F)) 𝒱₀ (c : Thread nD τ) none) Set.univ (bodyAt0 t) fun _ =>
      iprop(scratchAt Vin c (t.val + 1) ∗ (dat Vin c).owesAt none t.castSucc
        ∗ owns (c : Thread nD τ) (st0_0 t) fullShare (tokens Vin c t) ∗ owns (c : Thread nD τ) (st0_1 t) fullShare (protos Vin c t)
        ∗ owns (c : Thread nD τ) (st0_2 t) fullShare (k0_pay2 (tokens Vin c t) (pn Vin c)))
  simp only [before_tokens, before_protos]
  unfold scratchAt
  iintro ⟨⟨%Z, %hZ, HS⟩, Howes, ⟨%d0, H0⟩, ⟨%d1, H1⟩, ⟨%d2, H2⟩⟩
  rcases Nat.eq_zero_or_pos t.val with ht | ht
  · iapply (body_first c (grid0.coords t) ((coord_eq t).trans ht) (st0_0 t) _ (st0_1 t) _ (st0_2 t) _ _ (tokens Vin c t) (protos Vin c t) ((dat Vin c).before 2 t d2) Z _)
    isplitl [H0]; · iexact H0
    isplitl [H1]; · iexact H1
    isplitl [H2]; · iexact H2
    isplitl [HS]; · iexact HS
    iintro ⟨H0, H1, H2, HS⟩
    isplitl [HS]
    · iexists _; isplitr; swap; (· iexact HS); ipureintro
      intro _; rw [protos_eq]
    isplitl [Howes]; · iexact Howes
    isplitl [H0]; · iexact H0
    isplitl [H1]; · iexact H1
    rw [protos_eq]; iexact H2
  · obtain rfl : Z = pn Vin c := hZ (Nat.pos_iff_ne_zero.mp ht)
    iapply (body_later c (grid0.coords t) (by rw [coord_eq]; exact Nat.pos_iff_ne_zero.mp ht) (st0_0 t) _ (st0_1 t) _ (st0_2 t) _ _ (tokens Vin c t) (protos Vin c t) ((dat Vin c).before 2 t d2) (pn Vin c) _)
    isplitl [H0]; · iexact H0
    isplitl [H1]; · iexact H1
    isplitl [H2]; · iexact H2
    isplitl [HS]; · iexact HS
    iintro ⟨H0, H1, H2, HS⟩
    isplitl [HS]
    · iexists _; isplitr; swap; (· iexact HS); ipureintro
      intro _; rfl
    isplitl [Howes]; · iexact Howes
    isplitl [H0]; · iexact H0
    isplitl [H1]; · iexact H1
    iexact H2

/-! ## The result's array -/

theorem index_tokens (t : Fin cfg0.N) : win0_0.index t 0 = t.val ∧ win0_0.index t 1 = 0 := by
  rcases fin_N0 t with rfl | rfl | rfl | rfl | rfl | rfl | rfl | rfl <;> decide +kernel

theorem index_logits (t : Fin cfg0.N) : win0_2.index t 0 = 0 ∧ win0_2.index t 1 = t.val := by
  rcases fin_N0 t with rfl | rfl | rfl | rfl | rfl | rfl | rfl | rfl <;> decide +kernel

/-- The block of tokens of point `t`, by index. -/
theorem tokens_eq (c : Dev nD) (t : Fin cfg0.N) : tokens Vin c t = xBlock (Vin c main_v0) ⟨t.val, t.isLt.trans_eq N_0⟩ := by
  funext j
  show Vin c main_v0 (((cfg0.win 0).blk t).view.emb j) = Vin c main_v0 _
  congr 1
  funext a
  have e := index_tokens t
  fin_cases a
  · apply Fin.ext; blk_simp [e.1]; rfl
  · apply Fin.ext; blk_simp [e.2]; rfl

/-- After the last point the result's array holds the logits: point `b` writes columns `2048 · b … 2048 · b + 2047`. -/
theorem logits_final (c : Dev nD) : (dat Vin c).arrAt 2 cfg0.N = logits (F := F) (Vin c main_v0) (Vin c main_arg1) := by
  refine (dat Vin c).arrAt_eq_of_covers 2 _ (by decide +kernel) fun t hf y => ?_
  have e := index_logits t
  have hemb : ((cfg0.win 2).blk t).view.emb y = (ix2 (y 0) ⟨t.val * 2048 + (y 1).val, by
      have h : (y 1).val < 2048 := (y 1).isLt; have ht := t.isLt.trans_eq N_0; omega⟩ : S16x16384.Idx) := by
    funext a
    fin_cases a
    · apply Fin.ext; blk_simp [e.1]; rfl
    · apply Fin.ext; blk_simp [e.2]; rfl
  rw [hemb]
  refine Eq.trans ?_ (logits_at (F := F) (Vin c main_v0) (Vin c main_arg1) ⟨t.val, t.isLt.trans_eq N_0⟩ (y 0) (y 1) _).symm
  rw [← tokens_eq]
  show k0_pay2 (tokens Vin c t) (pn Vin c) y = k0_pay2 (tokens Vin c t) (pn Vin c) (ix2 (y 0) (y 1))
  exact congrArg _ (ix2_eta _).symm

/-! ## The step of @main -/

/-- The contents after the kernel: the logits in place, everything else as it was. -/
def withLogits : TCVal F := fun c => Function.update (Vin c) main_v1 (logits (F := F) (Vin c main_v0) (Vin c main_arg1))

theorem withLogits_self (c : Dev nD) : withLogits Vin c main_v1 = logits (F := F) (Vin c main_v0) (Vin c main_arg1) := Function.update_self _ _ _
theorem withLogits_ne (c : Dev nD) (b : Ref sig .tc) (h : b ≠ main_v1) : withLogits Vin c b = Vin c b := Function.update_of_ne h _ _

variable (adm : (p : Fin 1) → (pcfgs (F := F) p).Adm)

/-- The proof data of the one pipeline. -/
def pdats : (p : Fin 1) → (c : Dev nD) → Dat τ (Elt F) (HIx 1) ℕ UU ℕ (Pipeline.pin (pcfgs (F := F)) adm p) c
  | ⟨0, _⟩ => fun c => dat Vin c

/-- The TensorCore before its first SparseCore call: it owes the start signals, and has recorded waits at level zero
    only. -/
def owesLow (c : Dev nD) : sProp 𝕄 :=
  iprop(∃ W, ⌜(K (F := F)).WBelow (c : Thread nD τ) W 0⌝ ∗ owes (c : Thread nD τ) ((K (F := F)).Otc c 0) W)

set_option backward.isDefEq.respectTransparency.types false in
/-- The kernel as a region of @main, from the arrays at `Vin` to the arrays with the logits in place. -/
def reg : Pipeline.RegionSeg (pcfgs (F := F)) adm (pdats Vin adm) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation Vin c).loose
  hwaits c := Pipeline.cellsWaits_of_cut _ _ _ 0 c 0 ((K (F := F)).Otc c 0) (fun _ => rfl) (fun _ _ => Finset.mem_univ _) (fun _ _ => le_rfl)
    (fun g i h => ⟨Finset.mem_univ _, lt_of_lt_of_le (by omega) ((K (F := F)).lev_of_Otc_pos h)⟩)
  pre c := iprop(unscopedBufs c (Vin c) ∗ owesLow c)
  post c := iprop(unscopedBufs c (withLogits Vin c) ∗ owesLow c)
  X _ := BI.emp
  Y _ := BI.emp
  Z c := Pipeline.unscopedRest (Ix := HIx 1) (Name := ℕ) (U := UU) (Lvl := ℕ) spec0 c (Vin c)
  hentry c := by
    rw [Pipeline.ownSems0_none]
    have hsplit := Pipeline.arrays_of_unscopedBufs (p := 0) (pcfgs (F := F)) adm (pdats Vin adm) launch0.win launch0.arr_whole c
      ((pdats Vin adm 0 c).share_full fun _ => rfl) (Vin c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesLow Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats Vin adm 0 c).Φ 0 = scratchAt Vin c 0 from rfl]
    unfold scratchAt
    iintro ⟨-, -, Hs⟩
    ihave Hs' := (Entails.of_eq (scopedRest0_eq c)) $$ Hs
    icases Hs' with ⟨%f, Hr⟩
    iexists f; isplitr; · ipureintro; exact fun h => absurd rfl h
    iapply (Entails.of_eq (owns_whole (c : Thread nD τ) cc0_scratch0 fullShare f).symm); iexact Hr
  hout c := by
    rw [Pipeline.ownSems0_none, show (pdats Vin adm 0 c).Φ (Fin.last _) = scratchAt Vin c cfg0.N from rfl]
    unfold scratchAt
    iintro ⟨%Z, -, Hr⟩
    isplitr; · iempintro
    isplitr; · iempintro
    iapply (Entails.of_eq (scopedRest0_eq c).symm)
    iexists Z; ihave Hr' := (Entails.of_eq (owns_whole (c : Thread nD τ) cc0_scratch0 fullShare Z)) $$ Hr
    iexact Hr'
  hexit c := by
    have hjoin := Pipeline.unscopedBufs_of_arrays (p := 0) (pcfgs (F := F)) adm (Ix := HIx 1) (Name := ℕ) (U := UU) (Lvl := ℕ) launch0.win launch0.arr_whole c
      (pdats Vin adm) ((pdats Vin adm 0 c).share_full fun _ => rfl) (Vin c) (withLogits Vin c) ((pdats Vin adm 0 c).arrAt · cfg0.N)
      (fun w => by
        fin_cases w
        · exact ((pdats Vin adm 0 c).arrAt_in 0 rfl _).trans (withLogits_ne Vin c main_v0 (by decide)).symm
        · exact ((pdats Vin adm 0 c).arrAt_in 1 rfl _).trans (withLogits_ne Vin c main_arg1 (by decide)).symm
        · exact (logits_final Vin c).trans (withLogits_self Vin c).symm)
      (fun b hb => withLogits_ne Vin c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold owesLow Pipeline.Dat.owesAt Pipeline.owesWithin
    icases HO with ⟨%W, %hW, HO⟩; iexists W; isplitr
    · ipureintro
      intro p hp
      rcases hW hp with h | ⟨w, s, h⟩
      · exact h
      · rw [h]; exact le_rfl
    iexact HO

end Cert.Proof

end
-- ==== Proof.Launch.lean ====
/-
  The whole program's run: @main on the TensorCore, and the launch.

  The contents of the arrays are followed line by line: the activations reshaped, the logits computed by the pipelined
  kernel, the two results of the SparseCore call, and the four lines that transpose and reshape them. The run ends with
  the arguments unchanged, the two results at their values, and every semaphore counter at zero.
-/
module

public import proofs.«01_k».proof.Proof.Split
public import proofs.«01_k».proof.Proof.LogitsRegion
public import proofs.«01_k».proof.Proof.Gen.Kernel
public import proofs.«01_k».proof.Proof.Gen.KernelIdeal

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.ShloMosaic.Pipeline (ucRefs sub_ucRefs unscopedBufs_held)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

/-! ## The arrays' contents, line by line -/

/-- A TensorCore array as a buffer of the device. -/
abbrev dr (b : Ref sig .tc) : DevRef τ sig := Proc.devRef .tc b

/-- The lines of @main that are not kernels. -/
def line0 : HloOp τ sig (Elt F) := StableHlo.reshape main_arg0 main_v0 (rfl : (.f32 : EltTy) = .f32) shapeCasts_S4x4096x2048_S16384x2048
def line3 : HloOp τ sig (Elt F) := StableHlo.unary main_v2_0 main_v3 ((transpose S16384x2 [1, 0] · transposes_S2x16384_S16384x2_1_0) : (⟨S2x16384, .i32⟩ : BufTy).Contents (Elt F) → (⟨S16384x2, .i32⟩ : BufTy).Contents (Elt F))
def line4 : HloOp τ sig (Elt F) := StableHlo.reshape main_v3 main_v4 (rfl : (.i32 : EltTy) = .i32) shapeCasts_S16384x2_S4x4096x2
def line5 : HloOp τ sig (Elt F) := StableHlo.unary main_v2_1 main_v5 ((transpose S16384x2 [1, 0] · transposes_S2x16384_S16384x2_1_0) : (⟨S2x16384, .f32⟩ : BufTy).Contents (Elt F) → (⟨S16384x2, .f32⟩ : BufTy).Contents (Elt F))
def line6 : HloOp τ sig (Elt F) := StableHlo.reshape main_v5 main_v6 (rfl : (.f32 : EltTy) = .f32) shapeCasts_S16384x2_S4x4096x2

/-- At the launch, -/
def V0 (d : Dev nD) : Valuation τ sig (Elt F) := fun b => m (d, b)
/-- after the reshape, -/
def V1 (d : Dev nD) : Valuation τ sig (Elt F) := line0.result (V0 m d)

/-- (the activations, one row per token; the logits the kernel makes of them) -/
def acts (d : Dev nD) : FVec F S16384x2048 .f32 := shapeCast S16384x2048 (m ((d, dr main_arg0) : Loc nD τ sig) : FVec F S4x4096x2048 .f32) shapeCasts_S4x4096x2048_S16384x2048
def LG (d : Dev nD) : FVec F S16x16384 .f32 := logits (acts m d) (m ((d, dr main_arg1) : Loc nD τ sig))

/-- after the pipelined kernel, -/
def V2 (d : Dev nD) : Valuation τ sig (Elt F) := Function.update (V1 m d) (dr main_v1) (LG m d)
/-- after the SparseCore call, -/
def V3 (d : Dev nD) : Valuation τ sig (Elt F) :=
  Function.update (Function.update (V2 m d) (dr main_v2_0) (chosen (n := 16384) (LG m d) : IVec S2x16384 32))
    (dr main_v2_1) (weights (n := 16384) (LG m d) : FVec F S2x16384 .f32)
/-- and after the last line. -/
def V7 (d : Dev nD) : Valuation τ sig (Elt F) := line6.result (line5.result (line4.result (line3.result (V3 m d))))

/-- The results: the chosen experts and their weights, per token. -/
def outE (d : Dev nD) : IVec S4x4096x2 32 :=
  shapeCast S4x4096x2 (transpose S16384x2 [1, 0] (chosen (n := 16384) (LG m d) : IVec S2x16384 32) transposes_S2x16384_S16384x2_1_0 : IVec S16384x2 32) shapeCasts_S16384x2_S4x4096x2
def outW (d : Dev nD) : FVec F S4x4096x2 .f32 :=
  shapeCast S4x4096x2 (transpose S16384x2 [1, 0] (weights (n := 16384) (LG m d) : FVec F S2x16384 .f32) transposes_S2x16384_S16384x2_1_0 : FVec F S16384x2 .f32) shapeCasts_S16384x2_S4x4096x2

theorem dr_ne {a b : Ref sig .tc} (h : a ≠ b) : dr a ≠ dr b := fun e => h (Proc.devRef_injective _ e)

theorem V1_v0 (d : Dev nD) : V1 m d (dr main_v0) = acts m d := StableHlo.reshape_result ..
theorem V1_ne (d : Dev nD) (b : Ref sig .tc) (h : b ≠ main_v0) : V1 m d (dr b) = m (d, dr b) := StableHlo.reshape_result_ne _ _ _ _ _ _ _ h
theorem V2_v1 (d : Dev nD) : V2 m d (dr main_v1) = LG m d := Function.update_self ..
theorem V2_ne (d : Dev nD) (b : Ref sig .tc) (h : b ≠ main_v1) : V2 m d (dr b) = V1 m d (dr b) := Function.update_of_ne (dr_ne h) ..
theorem V3_e (d : Dev nD) : V3 m d (dr main_v2_0) = (chosen (n := 16384) (LG m d) : IVec S2x16384 32) :=
  (Function.update_of_ne (dr_ne (by decide)) ..).trans (Function.update_self ..)
theorem V3_w (d : Dev nD) : V3 m d (dr main_v2_1) = (weights (n := 16384) (LG m d) : FVec F S2x16384 .f32) := Function.update_self ..
theorem V3_ne (d : Dev nD) (b : DevRef τ sig) (h : b ≠ dr main_v2_0) (h' : b ≠ dr main_v2_1) : V3 m d b = V2 m d b :=
  (Function.update_of_ne h' ..).trans (Function.update_of_ne h ..)

theorem V7_v4 (d : Dev nD) : V7 m d (dr main_v4) = outE m d := by
  unfold V7 line6 line5 line4 line3
  rw [StableHlo.reshape_result_ne (h := by decide), StableHlo.unary_result_ne (h := by decide), StableHlo.reshape_result, StableHlo.unary_result, V3_e]
  rfl

theorem V7_v6 (d : Dev nD) : V7 m d (dr main_v6) = outW m d := by
  unfold V7 line6 line5 line4 line3
  rw [StableHlo.reshape_result, StableHlo.unary_result, StableHlo.reshape_result_ne (h := by decide), StableHlo.unary_result_ne (h := by decide), V3_w]
  rfl

theorem V7_arg (d : Dev nD) (b : Ref sig .tc) (h0 : b ≠ main_v0) (h1 : b ≠ main_v1) (h2 : b ≠ main_v2_0) (h2' : b ≠ main_v2_1)
    (h3 : b ≠ main_v3) (h4 : b ≠ main_v4) (h5 : b ≠ main_v5) (h6 : b ≠ main_v6) : V7 m d (dr b) = m (d, dr b) := by
  unfold V7 line6 line5 line4 line3
  rw [StableHlo.reshape_result_ne (h := h6), StableHlo.unary_result_ne (h := h5), StableHlo.reshape_result_ne (h := h4), StableHlo.unary_result_ne (h := h3),
    V3_ne m d _ (dr_ne h2) (dr_ne h2'), V2_ne m d b h1, V1_ne m d b h0]

/-! ## The pipelined kernel's step, on the arrays held together -/

abbrev adm (p : Fin 1) : (pcfgs (F := F) p).Adm := (cfgs p).toPCfg_adm

/-- The contents the kernel starts from. -/
def Vin : TCVal F := fun c b => V1 m c (dr b)

theorem Vin_held (d : Dev nD) : (unscopedBufs d (Vin m d) : sProp 𝕄) = held (SparseCore.T d) (ucRefs τ sig) (V1 m d) :=
  unscopedBufs_held d (V1 m d)

theorem withLogits_held (d : Dev nD) : (unscopedBufs d (withLogits (Vin m) d) : sProp 𝕄) = held (SparseCore.T d) (ucRefs τ sig) (V2 m d) := by
  rw [← unscopedBufs_held d (V2 m d)]
  congr 1
  funext b
  by_cases h : b = main_v1
  · subst h
    refine (withLogits_self (Vin m) d).trans (Eq.trans ?_ (V2_v1 m d).symm)
    unfold LG
    rw [show Vin m d main_v0 = acts m d from V1_v0 m d, show Vin m d main_arg1 = m (d, dr main_arg1) from V1_ne m d main_arg1 (by decide)]
  · exact (withLogits_ne (Vin m) d b h).trans (V2_ne m d b h).symm

/-! ## The SparseCore call's operands among the arrays -/

def scRefs : Finset (DevRef τ sig) := {dr main_v1, dr main_v2_0, dr main_v2_1}

theorem scRefs_sub (F : FTy → Type) [FloatOps F] : scRefs ⊆ ucRefs τ sig := by
  intro b hb
  rcases Finset.mem_insert.mp hb with rfl | hb
  · exact sub_ucRefs (Val := Elt F) (StableHlo.reshape (τ := τ) main_v1 main_v1 rfl rfl (by decide) (by decide)) (StableHlo.reshape_bufs_sub ..) (by simp [StableHlo.reshape_bufs])
  rcases Finset.mem_insert.mp hb with rfl | hb
  · exact sub_ucRefs (Val := Elt F) line3 (StableHlo.unary_bufs_sub ..) (Finset.mem_insert_self _ _)
  · rw [Finset.mem_singleton.mp hb]
    exact sub_ucRefs (Val := Elt F) line5 (StableHlo.unary_bufs_sub ..) (Finset.mem_insert_self _ _)

theorem held_scRefs (d : Dev nD) (V : Valuation τ sig (Elt F)) :
    (held (SparseCore.T d) scRefs V : sProp 𝕄)
      = iprop((lgLoc d ↦{fullShare} V (dr main_v1)) ∗ (eLoc d ↦{fullShare} V (dr main_v2_0)) ∗ (wLoc d ↦{fullShare} V (dr main_v2_1))) := by
  unfold held scRefs
  rw [SparseCore.bigSep_insert' (by simp [dr_ne]), SparseCore.bigSep_insert' (by simp [dr_ne]), bigSep_singleton]

/-- Before the call: its operands, and the rest. -/
theorem held_before (d : Dev nD) : (held (SparseCore.T d) (ucRefs τ sig) (V2 m d) : sProp 𝕄)
    = iprop((bigSep Finset.univ fun c : Fin ((K (F := F)).nCore 0) => (P m (LG m)).st 0 d c) ∗ held (SparseCore.T d) (ucRefs τ sig \ scRefs) (V2 m d)) := by
  rw [StableHlo.held_sub_split _ (scRefs_sub F), held_scRefs, st0_eq, V2_v1, V2_ne m d main_v2_0 (by decide), V2_ne m d main_v2_1 (by decide),
    V1_ne m d main_v2_0 (by decide), V1_ne m d main_v2_1 (by decide)]

/-- After it: the same, the results in place. -/
theorem held_after (d : Dev nD) : (held (SparseCore.T d) (ucRefs τ sig) (V3 m d) : sProp 𝕄)
    = iprop((bigSep Finset.univ fun c : Fin ((K (F := F)).nCore 0) => (P m (LG m)).dn 0 d c) ∗ held (SparseCore.T d) (ucRefs τ sig \ scRefs) (V2 m d)) := by
  rw [StableHlo.held_sub_split _ (scRefs_sub F), held_scRefs, dn0_eq, V3_e, V3_w, V3_ne m d (dr main_v1) (dr_ne (by decide)) (dr_ne (by decide)), V2_v1,
    StableHlo.held_congr (SparseCore.T d) (S := ucRefs τ sig \ scRefs) (V := V3 m d) (V' := V2 m d) fun b hb => V3_ne m d b
      (fun h => (Finset.mem_sdiff.mp hb).2 (by rw [h]; simp [scRefs])) (fun h => (Finset.mem_sdiff.mp hb).2 (by rw [h]; simp [scRefs]))]

/-! ## What the launch deals -/

/-- The pipeline's ghost state of device `d`. -/
def G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (nD := nD) (τ := τ) cfgs cellOf_inj) (Pipeline.launchToks (nD := nD) (τ := τ) cfgs cellOf_inj), (1 : Counters)))

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m (LG m)).x q thr) := by
  unfold u₀
  iintro Hu
  ihave H := (ownU_pair _ _) $$ Hu
  icases H with ⟨HH, HR⟩
  ihave H := (own_pair_emb (embR : Emb (UP × Counters) 𝕄) _ _) $$ HR
  icases H with ⟨HP, -⟩
  have he : (BI.emp : sProp 𝕄) ⊢ bigSep Finset.univ fun _ : Thread nD τ => (iprop(emp) : sProp 𝕄) := by
    rw [show (bigSep Finset.univ fun _ : Thread nD τ => (iprop(emp) : sProp 𝕄)) = BI.emp from bigSep_emp_const _]
  ihave HP' := (show BI.own (((Emb.inl : Emb UP (UP × Counters)).trans (embR : Emb (UP × Counters) 𝕄)) (initOf (Pipeline.cells (nD := nD) (τ := τ) cfgs cellOf_inj) (Pipeline.launchToks (nD := nD) (τ := τ) cfgs cellOf_inj)))
    ⊢ (BI.own (EP (initOf (Pipeline.cells (nD := nD) (τ := τ) cfgs cellOf_inj) (Pipeline.launchToks (nD := nD) (τ := τ) cfgs cellOf_inj))) : sProp 𝕄) from Entails.refl _) $$ HP
  imod (Pipeline.fund_ghost (nD := nD) (τ := τ) cfgs (EP : Emb UP 𝕄) cellOf_inj) $$ HP' with ⟨Hc, Ht⟩
  imodintro
  isplitl [HH]; · iexact HH
  isplitl [Hc Ht]
  · rw [show (bigSep Finset.univ fun c : Dev nD => bigSep Finset.univ fun p : Fin 1 => Pipeline.cellsGhost cfgs EP p c)
        = (bigSep Finset.univ fun c : Dev nD => Pipeline.cellsGhost (Val := Elt F) cfgs EP 0 c : sProp 𝕄) from
      bigSep_congr fun _ _ => bigSep_univ_of_subsingleton (0 : Fin 1),
      show (bigSep Finset.univ fun c : Dev nD => bigSep Finset.univ fun p : Fin 1 => Pipeline.toksInit cfgs EP p c)
        = (bigSep Finset.univ fun c : Dev nD => Pipeline.toksInit (Val := Elt F) cfgs EP 0 c : sProp 𝕄) from
      bigSep_congr fun _ _ => bigSep_univ_of_subsingleton (0 : Fin 1)]
    unfold G
    rw [bigSep_sep' (Finset.univ : Finset (Dev nD))]
    show iprop((bigSep Finset.univ fun c : Dev nD => Pipeline.cellsGhost (Val := Elt F) cfgs EP 0 c) ∗ bigSep Finset.univ fun c : Dev nD => Pipeline.toksInit (Val := Elt F) cfgs EP 0 c)
      ⊢ iprop((bigSep Finset.univ fun c : Dev nD => Pipeline.cellsGhost (Val := Elt F) cfgs EP 0 c) ∗ bigSep Finset.univ fun c : Dev nD => Pipeline.toksInit (Val := Elt F) cfgs EP 0 c)
    exact Entails.refl _
  rw [show (bigSep Finset.univ fun thr : Thread nD τ => bigSep Finset.univ fun q : Fin 1 => (P (F := F) m (LG m)).x q thr) = bigSep Finset.univ fun _ => iprop(emp) from
    bigSep_congr fun _ _ => bigSep_univ_of_subsingleton (0 : Fin 1)]
  iapply he; iempintro

/-! ## @main -/

/-- What @main ends with. -/
def FIN (d : Dev nD) : sProp 𝕄 := held (SparseCore.T d) (ucRefs τ sig) (V7 m d)

/-- The pipelined kernel's step in its own table of bodies. -/
theorem region_inner (d : Dev nD) (Φ : PUnit → sProp 𝕄) :
    iprop((iprop(boundary (d.tc : Thread nD τ) ∗ (reg (Vin m) adm).post d) -∗ wp frame (wpE (Pipeline.defs (pcfgs (F := F)) defs₀) 𝒱 (d.tc : Thread nD τ) none) Set.univ (.ret ⟨⟩) Φ)
        ∗ boundary (d.tc : Thread nD τ) ∗ (reg (Vin m) adm).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) 𝒱 (d.tc : Thread nD τ) none) Set.univ (.op (.customCall (Pipeline.entry 0) ()) fun _ => .ret ⟨⟩) Φ := by
  have := Pipeline.RegionSeg.wp (Val := Elt F) (P := Fin 1) (nD := nD) (τ := τ) (sig := sig) (pcfgs (F := F)) adm (pdats (Vin m) adm) (none : HIx 1) cellOf_inj EP defs₀ 𝒱₀ (K (F := F)).L (K (F := F)).lev (p := 0) (reg (Vin m) adm) d none (fun u hu => absurd hu (Option.not_mem_none u)) (fun _ => .ret ⟨⟩) Φ
  exact this

/-- The pipelined kernel's step. -/
theorem region_step (d : Dev nD) (Φ : PUnit → sProp 𝕄) :
    iprop(((boundary (SparseCore.T d) ∗ held (SparseCore.T d) (ucRefs τ sig) (V2 m d) ∗ owesLow d) -∗ Φ ⟨⟩)
        ∗ boundary (SparseCore.T d) ∗ held (SparseCore.T d) (ucRefs τ sig) (V1 m d) ∗ owesLow d
        ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Φ := by
  have hl := (K (F := F)).wp_liftProg (D (F := F)) 𝒱 (SparseCore.T d) Set.univ none
    (.op (.customCall (Pipeline.entry 0) ()) (fun _ => .ret ⟨⟩) : Prog (TpuEff nD τ sig (Elt F) (ΛP (F := F)) .tc) PUnit) Φ
  refine Idealize.SL.BI.BIBase.Entails.trans ?_ hl
  refine Idealize.SL.BI.BIBase.Entails.trans ?_ (region_inner m d Φ)
  rw [show (reg (Vin m) adm).post d = iprop(unscopedBufs d (withLogits (Vin m) d) ∗ owesLow d) from rfl,
    show (reg (Vin m) adm).pre d = iprop(unscopedBufs d (Vin m d) ∗ owesLow d) from rfl, withLogits_held, Vin_held, wp_ret]
  unfold G
  iintro ⟨Hk, Hb, Hh, HO, Hl, Hc, Ht⟩
  isplitl [Hk]
  · iintro ⟨Hb, Hh, HO⟩
    imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hc]; · iexact Hc
  iexact Ht

/-- @main before the SparseCore call owes the start signals, and has waited at level zero only. -/
theorem tcSt_low (d : Dev nD) : ∃ R : sProp 𝕄, (K (F := F)).tcSt EH d 0 = iprop(owesLow d ∗ R) := ⟨_, rfl⟩

/-- A line of @main that is not a kernel. -/
theorem line_step (d : Dev nD) (op : HloOp τ sig (Elt F)) (hop : op.bufs ⊆ StableHlo.tcRefs τ sig) (hf : op.fresh = ∅) (V : Valuation τ sig (Elt F)) (Φ : PUnit → sProp 𝕄) :
    iprop(((boundary (SparseCore.T d) ∗ held (SparseCore.T d) (ucRefs τ sig) (op.result V)) -∗ Φ ⟨⟩)
        ∗ boundary (SparseCore.T d) ∗ held (SparseCore.T d) (ucRefs τ sig) V)
      ⊢ wp frame (wpE ((K (F := F)).defs (D (F := F))) 𝒱 (SparseCore.T d) none) Set.univ (hlo rfl op fun _ => .ret ⟨⟩) Φ := by
  iintro ⟨Hk, Hb, Hh⟩
  iapply (StableHlo.wp_hlo_within 𝒱 (SparseCore.T d) none Set.univ (op := op) (S := ucRefs τ sig) (sub_ucRefs op hop) (V := V) hf) $$ [Hb Hh]
  · isplitl [Hb]; · iexact Hb
    iexact Hh
  iintro H
  rw [wp_ret]; imodintro
  iapply Hk; iexact H

theorem hmain (κ : GSem nD τ sig → ℕ) (d : Dev nD) :
    iprop((K (F := F)).ctx EH (P m (LG m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_low (F := F) d
  unfold SparseCore.Cfg.tcRes SparseCore.Cfg.tcEnd FIN
  rw [show (unscopedBufs d (fun b => m ((SparseCore.T d).loc b)) : sProp 𝕄) = held (SparseCore.T d) (ucRefs τ sig) (V0 m d) from unscopedBufs_held d (V0 m d)]
  simp only [main, wp_bind, wp_pure]
  iintro ⟨#Hctx, Hst, ⟨Hb, Hh, Hts, -⟩, HG⟩
  iapply (line_step d line0 (StableHlo.reshape_bufs_sub ..) rfl (V0 m d))
  isplitr [Hb Hh]; swap
  · isplitl [Hb] <;> iassumption
  iintro ⟨Hb, Hh⟩
  ihave Hl := ((K (F := F)).ctx_levAts κ) $$ Hctx
  ihave Hst' := (Entails.of_eq hR) $$ Hst
  icases Hst' with ⟨HO, HR⟩
  iapply (region_step m d)
  isplitr [Hb Hh HO Hl HG]; swap
  · isplitl [Hb]; · iexact Hb
    isplitl [Hh]; · iexact Hh
    isplitl [HO]; · iexact HO
    isplitl [Hl]; · iexact Hl
    iexact HG
  iintro ⟨Hb, Hh, HO⟩
  ihave Hst := (Entails.of_eq hR.symm) $$ [HO HR]
  · isplitl [HO] <;> iassumption
  ihave Hh' := (Entails.of_eq (held_before m d)) $$ Hh
  icases Hh' with ⟨Hops, Hrest⟩
  iapply ((K (F := F)).wp_run (D (F := F)) 𝒱 (EH := EH) (P := P m (LG m)) κ d 0)
  isplitr; · iexact Hctx
  isplitl [Hst]; · iexact Hst
  isplitl [Hops]; · iexact Hops
  iintro ⟨Hst, Hdn⟩
  ihave Hh := (Entails.of_eq (held_after m d).symm) $$ [Hdn Hrest]
  · isplitl [Hdn] <;> iassumption
  iapply (line_step d line3 (StableHlo.unary_bufs_sub ..) rfl (V3 m d))
  isplitr [Hb Hh]; swap
  · isplitl [Hb] <;> iassumption
  iintro ⟨Hb, Hh⟩
  iapply (line_step d line4 (StableHlo.reshape_bufs_sub ..) rfl _)
  isplitr [Hb Hh]; swap
  · isplitl [Hb] <;> iassumption
  iintro ⟨Hb, Hh⟩
  iapply (line_step d line5 (StableHlo.unary_bufs_sub ..) rfl _)
  isplitr [Hb Hh]; swap
  · isplitl [Hb] <;> iassumption
  iintro ⟨Hb, Hh⟩
  iapply (line_step d line6 (StableHlo.reshape_bufs_sub ..) rfl _)
  isplitr [Hb Hh]; swap
  · isplitl [Hb] <;> iassumption
  iintro ⟨Hb, Hh⟩
  imodintro
  isplitl [Hst]; · iexact Hst
  isplitl [Hh]; · iexact Hh
  isplitl [Hb] <;> iassumption

/-! ## The launch -/

/-- The final memory, of what the claims speak of. -/
def fq (d : Dev nD) (s' : Phys nD τ sig (Elt F)) : Prop :=
  s'.mem.mem (d, dr main_v4) = outE m d ∧ s'.mem.mem (d, dr main_v6) = outW m d
    ∧ s'.mem.mem (d, dr main_arg0) = m (d, dr main_arg0) ∧ s'.mem.mem (d, dr main_arg1) = m (d, dr main_arg1)

/-- Holding the arrays pins the final memory. -/
theorem held_read (d : Dev nD) (V : Valuation τ sig (Elt F)) (b : DevRef τ sig) (hb : b ∈ ucRefs τ sig) (s' : Phys nD τ sig (Elt F)) :
    iprop(held (SparseCore.T d) (ucRefs τ sig) V ∗ SI s') ⊢ (⌜s'.mem.mem (d, b) = V b⌝ : sProp 𝕄) := by
  have hel : (held (SparseCore.T d) (ucRefs τ sig) V : sProp 𝕄) ⊢ (((d, b) : Loc nD τ sig) ↦{fullShare} V b) :=
    bigSep_elim (Φ := fun b : DevRef τ sig => (((d, b) : Loc nD τ sig) ↦{fullShare} V b : sProp 𝕄)) hb
  iintro ⟨H, HSI⟩
  ihave Hb := hel $$ H
  ihave H := (SI_pointsTo_agree (st := s') (ℓ := (d, b)) (I := Finset.univ) (q := fullShare) (f := V b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  have mem : ∀ b : Ref sig .tc, b.isScoped = false → dr b ∈ ucRefs τ sig := fun b hb =>
    Finset.mem_filter.mpr ⟨Finset.mem_map.mpr ⟨b, Finset.mem_univ _, rfl⟩, fun h => Bool.false_ne_true (hb.symm.trans h)⟩
  have r4 := held_read d (V7 m d) (dr main_v4) (mem _ rfl) s'
  have r6 := held_read d (V7 m d) (dr main_v6) (mem _ rfl) s'
  have r0 := held_read d (V7 m d) (dr main_arg0) (mem _ rfl) s'
  have r1 := held_read d (V7 m d) (dr main_arg1) (mem _ rfl) s'
  unfold FIN
  iintro H
  ihave H := (persistent_entails_right r4) $$ H
  icases H with ⟨%h4, H⟩
  ihave H := (persistent_entails_right r6) $$ H
  icases H with ⟨%h6, H⟩
  ihave H := (persistent_entails_right r0) $$ H
  icases H with ⟨%h0, H⟩
  ihave H := r1 $$ H
  icases H with %h1
  ipureintro
  exact ⟨h4.trans (V7_v4 m d), h6.trans (V7_v6 m d),
    h0.trans (V7_arg m d main_arg0 (by decide) (by decide) (by decide) (by decide) (by decide) (by decide) (by decide) (by decide)),
    h1.trans (V7_arg m d main_arg1 (by decide) (by decide) (by decide) (by decide) (by decide) (by decide) (by decide) (by decide))⟩

/-- What the run ends with. -/
def QC : PUnit × MemSt nD τ sig (Elt F) → Prop := fun r =>
  (∀ d : Dev nD, r.2.mem (d, dr main_v4) = outE m d ∧ r.2.mem (d, dr main_v6) = outW m d
    ∧ r.2.mem (d, dr main_arg0) = m (d, dr main_arg0) ∧ r.2.mem (d, dr main_arg1) = m (d, dr main_arg1)) ∧ r.2.sem = fun _ => 0

/-- The whole program's run, over any float interpretation. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (LG m)) (A := ∅) facts v₀
    (fun q hq => match q with | 0 => nomatch hq)
    (fun q _ => match q with | 0 => tileObl m (LG m))
    (fun q _ => match q with | 0 => SparseCore.Cfg.VecSplit.of_plain (vecSplit m (LG m)))
    m ρ main (G (F := F)) (FIN m) (u₀ (F := F)) (sep_elim_left.trans (hu₀ m)) (hmain m ρ) (fq m) (hfin m) (QC m) (fun _ h hz => ⟨h, hz⟩)

/-- `Cert.quiescent_KernelIdeal` (Defs.lean). -/
theorem frame_kernelIdeal : Cert.quiescent_KernelIdeal := fun m ρ _ =>
  (θ_run Cert.KernelIdeal.defs _ _).mono (fun _ h => ⟨fun c => (h.1 c).2.2, h.2⟩) (run_main (F := Ideal) m ρ)

/-- The two programs' bodies are the same, label by label, -/
theorem same_bodies : Cert.Kernel.defs₀ (F := Bits) = Cert.KernelIdeal.defs₀ (F := Bits) := by
  funext p ℓ a
  cases p with
  | tc => match ℓ, a with
    | 0, (_, _) => rfl
    | 1, _ => rfl
  | scScalar c => match ℓ, a with
    | 0, (_, _) => rfl
    | 1, _ => rfl
  | scVector c s => match ℓ, a with
    | 0, (_, _) => rfl
    | 1, _ => rfl

/-- and so are their tables. -/
theorem same_defs : Cert.Kernel.defs (F := Bits) = Cert.KernelIdeal.defs (F := Bits) := by
  unfold Cert.Kernel.defs Cert.KernelIdeal.defs
  rw [same_bodies]
  rfl

/-- `Cert.quiescent_Kernel` (Defs.lean): the same program, over words. -/
theorem frame_kernel : Cert.quiescent_Kernel := fun m ρ _ => by
  rw [same_defs]
  exact (θ_run (Cert.KernelIdeal.defs (F := Bits)) _ _).mono (fun r (h : QC (F := Bits) m r) => ⟨fun c => (h.1 c).2.2, h.2⟩) (run_main (F := Bits) m ρ)

end Cert.Proof

end
-- ==== Proof.Softmax.lean ====
/-
  The kernel's two weights are the reference's softmax: of two logits, real numbers, the greater first, the kernel takes
  z / (1 + z) and one less that, where z is the exponential of the difference, and the reference subtracts the maximum from
  each, exponentiates and divides by the sum.
-/
module

public import proofs.«01_k».proof.Proof.Scan
public import Idealize.ShloMosaic.PureOps.Ideal.Laws
public import Idealize.ShloMosaic.Lib.IdealHost

@[expose] public section

noncomputable section

namespace Cert.Proof

open Idealize.ShloMosaic

theorem ofBits_bot : Ideal.ofBits .f32 0xFF800000#32 = ⊥ := by
  simp [Ideal.ofBits, Ideal.ieee]

/-- A quotient of reals by a positive one. -/
theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The second weight, -/
theorem softmax_second (a b : ℝ) :
    Ideal.div (Ideal.exp ((b : EReal) - a)) (Ideal.exp ((a : EReal) - a) + Ideal.exp ((b : EReal) - a))
      = Ideal.div (Ideal.exp ((b : EReal) - a)) (1 + Ideal.exp ((b : EReal) - a)) := by
  rw [← EReal.coe_sub, ← EReal.coe_sub, sub_self]
  show Ideal.div ((Real.exp (b - a) : ℝ) : EReal) (((Real.exp 0 : ℝ) : EReal) + ((Real.exp (b - a) : ℝ) : EReal)) = _
  rw [Real.exp_zero]
  rfl

/-- and the first. -/
theorem softmax_first (a b : ℝ) :
    Ideal.div (Ideal.exp ((a : EReal) - a)) (Ideal.exp ((a : EReal) - a) + Ideal.exp ((b : EReal) - a))
      = 1 - Ideal.div (Ideal.exp ((b : EReal) - a)) (1 + Ideal.exp ((b : EReal) - a)) := by
  rw [← EReal.coe_sub, ← EReal.coe_sub, sub_self]
  show Ideal.div ((Real.exp 0 : ℝ) : EReal) (((Real.exp 0 : ℝ) : EReal) + ((Real.exp (b - a) : ℝ) : EReal))
    = ((1 : ℝ) : EReal) - Ideal.div ((Real.exp (b - a) : ℝ) : EReal) (((1 : ℝ) : EReal) + ((Real.exp (b - a) : ℝ) : EReal))
  have h : (0 : ℝ) < 1 + Real.exp (b - a) := by positivity
  rw [Real.exp_zero, ← EReal.coe_add, div_coe _ _ h, div_coe _ _ h, ← EReal.coe_sub]
  congr 1
  field_simp
  ring

end Cert.Proof

end
-- ==== Proof.Finite.lean ====
/-
  Every logit is a real number, whatever the arguments. A vector divided by the greater of its norm and a positive bound
  has real entries: if the sum of its squares is infinite, so is the norm, and every quotient is zero; if not, no entry is
  infinite and the divisor is a positive real. A logit is a sum of products of two such vectors' entries over a constant.
-/
module

public import proofs.«01_k».proof.Proof.Softmax

@[expose] public section

noncomputable section

namespace Cert.Proof

open Idealize.ShloMosaic

/-- The bound on the norm, -/
abbrev small : EReal := Ideal.ofBits .f32 0x2B8CBCCC#32
/-- and the constant the dot products are divided by. -/
abbrev scale : EReal := Ideal.ofBits .f32 0x423504F3#32

theorem small_real : ∃ r : ℝ, 0 < r ∧ small = (r : EReal) := by
  refine ⟨_, ?_, by simp [small, Ideal.ofBits, Ideal.ieee]; rfl⟩
  positivity

theorem scale_real : ∃ r : ℝ, 0 < r ∧ scale = (r : EReal) := by
  refine ⟨_, ?_, by simp [scale, Ideal.ofBits, Ideal.ieee]; rfl⟩
  positivity

/-- What a vector is divided by. -/
def norm {n : ℕ} (x : Fin n → EReal) : EReal := max (Ideal.sqrt (∑ k, x k * x k)) small

theorem mul_self_nonneg' (a : EReal) : 0 ≤ a * a := by
  rcases le_total 0 a with h | h
  · exact EReal.mul_nonneg h h
  · have h' := EReal.neg_nonneg.mpr h
    have := EReal.mul_nonneg h' h'
    rwa [neg_mul_neg] at this

/-- An entry over the norm is a real number. -/
theorem unit_real {n : ℕ} (x : Fin n → EReal) (k : Fin n) : ∃ r : ℝ, Ideal.div (x k) (norm x) = (r : EReal) := by
  obtain ⟨e, he, hs⟩ := small_real
  have h0 : (0 : EReal) ≤ ∑ k, x k * x k := Finset.sum_nonneg fun k _ => mul_self_nonneg' _
  have hk : x k * x k ≤ ∑ k, x k * x k :=
    Finset.single_le_sum (f := fun k => x k * x k) (fun k _ => mul_self_nonneg' _) (Finset.mem_univ k)
  unfold norm
  rw [hs]
  generalize (∑ k, x k * x k) = S at h0 hk ⊢
  induction S with
  | bot => exact absurd h0 (by simp)
  | top =>
    refine ⟨0, ?_⟩
    show Ideal.div (x k) (max ⊤ _) = _
    rw [max_eq_left le_top]
    unfold Ideal.div
    simp
  | coe s =>
    have hs0 : 0 ≤ s := by exact_mod_cast h0
    have hd : max (Ideal.sqrt (s : EReal)) (e : EReal) = ((max (Real.sqrt s) e : ℝ) : EReal) := by
      have : Ideal.sqrt (s : EReal) = ((Real.sqrt s : ℝ) : EReal) := by
        show (if s < 0 then ⊥ else ((Real.sqrt s : ℝ) : EReal)) = _
        rw [if_neg (not_lt.mpr hs0)]
      rw [this]
      exact (EReal.coe_strictMono.monotone.map_max).symm
    rw [hd]
    generalize x k = a at hk ⊢
    induction a with
    | bot => exact absurd hk (by simp)
    | top => exact absurd hk (by simp)
    | coe a => exact ⟨_, div_coe a _ (lt_max_of_lt_right he)⟩

/-- A sum of reals is one. -/
theorem sum_real {ι : Type} (s : Finset ι) (f : ι → EReal) (h : ∀ k, ∃ r : ℝ, f k = (r : EReal)) :
    ∃ r : ℝ, ∑ k ∈ s, f k = (r : EReal) := by
  classical
  induction s using Finset.induction_on with
  | empty => exact ⟨0, rfl⟩
  | insert a s ha ih =>
    obtain ⟨r, hr⟩ := ih
    obtain ⟨q, hq⟩ := h a
    exact ⟨q + r, by rw [Finset.sum_insert ha, hr, hq, EReal.coe_add]⟩

/-- A token's logit at an expert: the dot product of the two normalised vectors, over the constant. -/
def logit {n : ℕ} (x p : Fin n → EReal) : EReal :=
  Ideal.div (∑ k, Ideal.div (x k) (norm x) * Ideal.div (p k) (norm p)) scale

theorem logit_real {n : ℕ} (x p : Fin n → EReal) : ∃ r : ℝ, logit x p = (r : EReal) := by
  obtain ⟨t, ht, hs⟩ := scale_real
  obtain ⟨d, hd⟩ := sum_real Finset.univ (fun k => Ideal.div (x k) (norm x) * Ideal.div (p k) (norm p)) fun k => by
    obtain ⟨a, ha⟩ := unit_real x k
    obtain ⟨b, hb⟩ := unit_real p k
    exact ⟨a * b, by rw [ha, hb, EReal.coe_mul]⟩
  exact ⟨d / t, by unfold logit; rw [hd, hs, div_coe _ _ ht]⟩

end Cert.Proof

end
-- ==== Proof.KernelLogits.lean ====
/-
  The kernel's logits, entry by entry: expert `e` and token `n` is the dot product of the two normalised vectors over the
  constant. The token's vector is a row of the block it lies in, the expert's a row of the prototypes.
-/
module

public import proofs.«01_k».proof.Proof.Finite
public import Idealize.ShloMosaic.Lib.Pipeline.Value

@[expose] public section

noncomputable section

namespace Cert.Proof

open Cert.KernelIdeal Cert.KernelIdeal.Gen

open Idealize.ShloMosaic

/-- Rows divided by their norms, as the kernel does it: squared, summed along the row, the root taken, held above the
    bound and spread along the row again. -/
theorem unit_apply {r : ℕ} (v : FVec Ideal ⟨2, ![r, 2048]⟩ .f32)
    (hred : (⟨2, ![r, 2048]⟩ : Shape).Reduces [1] ⟨1, ![r]⟩) (hφ : FKind.Formats .f32)
    (hacc : (0x00000000#32 : BitVec 32) = FKind.add.neutral .f32 hφ)
    (hc : (⟨1, ![r]⟩ : Shape).ShapeCasts ⟨2, ![r, 1]⟩) (hb : (⟨2, ![r, 1]⟩ : Shape).Broadcasts ⟨2, ![r, 2048]⟩)
    (i : Fin r) (k : Fin 2048) :
    divf v (broadcastTo ⟨2, ![r, 2048]⟩ (maximumf (sqrt (shapeCast ⟨2, ![r, 1]⟩
      (multiReduction .add [1] ⟨1, ![r]⟩ (mulf v v) 0x00000000#32 hred hφ hacc) hc))
      (broadcast ⟨2, ![r, 1]⟩ (Scalar.ofBits .f32 0x2B8CBCCC#32))) hb) (ix2 i k)
      = Ideal.div (v (ix2 i k)) (norm fun k => v (ix2 i k)) := by
  rw [ValueIdx.divf_apply, broadcastTo_apply _ hb (ix2 i k) (ix2 i (0 : Fin 1)) (fun a => by
    match a with
    | ⟨0, _⟩ =>
      show i.val = if r = 1 then 0 else i.val
      split
      · have := i.isLt; omega
      · rfl
    | ⟨1, _⟩ => rfl), ValueIdx.maximumf_apply]
  show Ideal.div _ (max (Ideal.sqrt (shapeCast ⟨2, ![r, 1]⟩ _ hc (ix2 i (0 : Fin 1)))) small) = _
  rw [shapeCast_apply _ hc (ix2 i (0 : Fin 1)) (ix1 i) (by
      rw [Shape.rowMajor_val_two, Shape.rowMajor_val_one]
      show i.val = i.val * 1 + 0
      omega), Ideal.multiReduction_add_single]
  unfold norm
  have e : (∑ k : Fin 2048, mulf v v (hred.lift (ix1 i) k)) = ∑ k : Fin 2048, v (ix2 i k) * v (ix2 i k) :=
    Finset.sum_congr rfl fun k _ => by
      have : hred.lift (ix1 i) k = ix2 i k := funext fun c => match c with | ⟨0, _⟩ => rfl | ⟨1, _⟩ => rfl
      rw [this]; rfl
  exact congrArg (fun s => Ideal.div (v (ix2 i k)) (max (Ideal.sqrt s) small)) e

theorem k0_pay1_apply (p : FVec Ideal S16x2048 .f32) (e : Fin 16) (k : Fin 2048) :
    k0_pay1 (F := Ideal) p (ix2 e k) = Ideal.div (p (ix2 e k)) (norm fun k => p (ix2 e k)) := by
  unfold k0_pay1
  dsimp only
  rw [shapeCast_id]
  exact unit_apply p _ _ _ _ _ e k

/-- A row of the first operand against a row of the second. -/
theorem dot_rows (x : FVec Ideal S2048x2048 .f32) (p : FVec Ideal S16x2048 .f32) (j : Fin 2048) (e : Fin 16) :
    matmul dot_S2048x2048_S16x2048_S2048x16_1_1_0_0_n_n none x p (constant S2048x16 .f32 0x00000000#32) (ix2 j e)
      = ∑ k : Fin 2048, x (ix2 j k) * p (ix2 e k) := by
  show FloatOps.matmul _ _ _ _ _ _ = _
  rw [Ideal.matmul_constant_zero_apply,
    ← Equiv.sum_comp (ValueIdx.contrEquiv1 dot_S2048x2048_S16x2048_S2048x16_1_1_0_0_n_n 2048 rfl rfl).symm]
  refine Finset.sum_congr rfl fun k _ => ?_
  have h₁ : dot_S2048x2048_S16x2048_S2048x16_1_1_0_0_n_n.lhsIdx (ix2 j e)
      ((ValueIdx.contrEquiv1 dot_S2048x2048_S16x2048_S2048x16_1_1_0_0_n_n 2048 rfl rfl).symm k) = ix2 j k :=
    funext fun c => match c with | ⟨0, _⟩ => Fin.ext rfl | ⟨1, _⟩ => Fin.ext rfl
  have h₂ : dot_S2048x2048_S16x2048_S2048x16_1_1_0_0_n_n.rhsIdx (ix2 j e)
      ((ValueIdx.contrEquiv1 dot_S2048x2048_S16x2048_S2048x16_1_1_0_0_n_n 2048 rfl rfl).symm k) = ix2 e k :=
    funext fun c => match c with | ⟨0, _⟩ => Fin.ext rfl | ⟨1, _⟩ => Fin.ext rfl
  rw [h₁, h₂]

theorem k0_pay2_apply (x : FVec Ideal S2048x2048 .f32) (p : FVec Ideal S16x2048 .f32) (e : Fin 16) (j : Fin 2048) :
    k0_pay2 (F := Ideal) x (k0_pay1 (F := Ideal) p) (ix2 e j) = logit (fun k => x (ix2 j k)) fun k => p (ix2 e k) := by
  unfold k0_pay2
  dsimp only
  rw [shapeCast_id, ValueIdx.divf_apply,
    transpose_apply _ _ _ (ix2 e j) (ix2 j e) (fun c => match c with | ⟨0, _⟩ => rfl | ⟨1, _⟩ => rfl), dot_rows]
  unfold logit
  refine congrArg (fun s => Ideal.div s scale) (Finset.sum_congr rfl fun k _ => ?_)
  rw [k0_pay1_apply]
  exact congrArg (· * _) (unit_apply x _ _ _ _ _ j k)

/-- Token `n`'s logit at expert `e`. -/
theorem logits_apply (X : FVec Ideal S16384x2048 .f32) (p : FVec Ideal S16x2048 .f32) (e : Fin 16) (n : Fin 16384) :
    logits (F := Ideal) X p (ix2 e n) = logit (fun k => X (ix2 n k)) fun k => p (ix2 e k) := by
  have h := n.isLt
  have e₁ : n = ⟨(⟨n.val / 2048, by omega⟩ : Fin 8).val * 2048 + (⟨n.val % 2048, Nat.mod_lt _ (by norm_num)⟩ : Fin 2048).val,
      by show n.val / 2048 * 2048 + n.val % 2048 < 16384; omega⟩ :=
    Fin.ext (by show n.val = n.val / 2048 * 2048 + n.val % 2048; omega)
  rw [e₁, logits_at X p ⟨n.val / 2048, by omega⟩ e ⟨n.val % 2048, Nat.mod_lt _ (by norm_num)⟩, k0_pay2_apply]
  rfl

end Cert.Proof

end
-- ==== Proof.RefLogits.lean ====
/-
  The reference's logits, entry by entry: token `(b, s)` and expert `e` is the dot product of the two normalised vectors
  over the constant, as in the kernel.
-/
module

public import proofs.«01_k».proof.Proof.Finite
public import proofs.«01_k».proof.Proof.Gen.ReferenceIdeal.Run
public import Idealize.ShloMosaic.Lib.Pipeline.Value

@[expose] public section

noncomputable section

namespace Cert.Proof

open Cert.ReferenceIdeal Cert.ReferenceIdeal.Gen

open Idealize.ShloMosaic

/-- The activations and the prototypes, rows divided by their norms, as the reference does it. -/
def unitActs (A : FVec Ideal S4x4096x2048 .f32) : FVec Ideal S4x4096x2048 .f32 :=
  Host.divf A (broadcastInDim S4x4096x2048 ![0, 1, 2] bcast_S4x4096x1_S4x4096x2048_0_1_2 (maximumf (Host.sqrt
    (broadcastInDim S4x4096x1 ![0, 1] bcast_S4x4096_S4x4096x1_0_1 (Host.reduceAdd (mulf A A)
      (constant S_ .f32 0x00000000#32) reducesTo_S4x4096x2048_S4x4096_d2 h_S_)))
    (broadcastInDim S4x4096x1 ![] bcast_S_S4x4096x1 (constant S_ .f32 0x2B8CBCCC#32))))

def unitProtos (P : FVec Ideal S16x2048 .f32) : FVec Ideal S16x2048 .f32 :=
  Host.divf P (broadcastInDim S16x2048 ![0, 1] bcast_S16x1_S16x2048_0_1 (maximumf (Host.sqrt
    (broadcastInDim S16x1 ![0] bcast_S16_S16x1_0 (Host.reduceAdd (mulf P P)
      (constant S_ .f32 0x00000000#32) reducesTo_S16x2048_S16_d1 h_S_)))
    (broadcastInDim S16x1 ![] bcast_S_S16x1 (constant S_ .f32 0x2B8CBCCC#32))))

/-- The logits. -/
def refLogits (A : FVec Ideal S4x4096x2048 .f32) (P : FVec Ideal S16x2048 .f32) : FVec Ideal S4x4096x16 .f32 :=
  Host.divf (Host.dotGeneral dot_S4x4096x2048_S16x2048_S4x4096x16_2_1_01_0_n_n none (unitActs A) (unitProtos P))
    (broadcastInDim S4x4096x16 ![] bcast_S_S4x4096x16 (constant S_ .f32 0x423504F3#32))

theorem sum_acts (A : FVec Ideal S4x4096x2048 .f32) (b : Fin 4) (s : Fin 4096) :
    Host.reduceAdd (mulf A A) (constant S_ .f32 0x00000000#32) reducesTo_S4x4096x2048_S4x4096_d2 h_S_ (ix2 b s)
      = ∑ k : Fin 2048, A (ix3 b s k) * A (ix3 b s k) := by
  have hred : S4x4096x2048.Reduces [2] S4x4096 := by decide
  show Ideal.hostReduceAdd reducesTo_S4x4096x2048_S4x4096_d2 (mulf A A) (Ideal.ofBits .f32 0x00000000#32) (ix2 b s) = _
  rw [Ideal.hostReduceAdd_single _ hred, Ideal.ofBits_zero_f32, zero_add]
  refine Finset.sum_congr rfl fun k _ => ?_
  have : hred.lift (ix2 b s) k = ix3 b s k :=
    funext fun c => match c with | ⟨0, _⟩ => rfl | ⟨1, _⟩ => rfl | ⟨2, _⟩ => rfl
  rw [this]; rfl

theorem sum_protos (P : FVec Ideal S16x2048 .f32) (e : Fin 16) :
    Host.reduceAdd (mulf P P) (constant S_ .f32 0x00000000#32) reducesTo_S16x2048_S16_d1 h_S_ (ix1 e)
      = ∑ k : Fin 2048, P (ix2 e k) * P (ix2 e k) := by
  have hred : S16x2048.Reduces [1] S16 := by decide
  show Ideal.hostReduceAdd reducesTo_S16x2048_S16_d1 (mulf P P) (Ideal.ofBits .f32 0x00000000#32) (ix1 e) = _
  rw [Ideal.hostReduceAdd_single _ hred, Ideal.ofBits_zero_f32, zero_add]
  refine Finset.sum_congr rfl fun k _ => ?_
  have : hred.lift (ix1 e) k = ix2 e k := funext fun c => match c with | ⟨0, _⟩ => rfl | ⟨1, _⟩ => rfl
  rw [this]; rfl

theorem unitActs_apply (A : FVec Ideal S4x4096x2048 .f32) (b : Fin 4) (s : Fin 4096) (k : Fin 2048) :
    unitActs A (ix3 b s k) = Ideal.div (A (ix3 b s k)) (norm fun k => A (ix3 b s k)) := by
  unfold unitActs
  rw [ValueIdx.hostDivf_apply, broadcastInDim_apply _ _ _ (ix3 b s k) (ix3 b s (0 : Fin 1))
    (fun a => match a with | ⟨0, _⟩ => rfl | ⟨1, _⟩ => rfl | ⟨2, _⟩ => rfl), ValueIdx.maximumf_apply]
  show Ideal.div _ (max (Ideal.sqrt (broadcastInDim (s := S4x4096) S4x4096x1 ![0, 1] bcast_S4x4096_S4x4096x1_0_1 _ (ix3 b s (0 : Fin 1)))) small) = _
  rw [broadcastInDim_apply _ _ _ (ix3 b s (0 : Fin 1)) (ix2 b s) (fun a => match a with | ⟨0, _⟩ => rfl | ⟨1, _⟩ => rfl),
    sum_acts]
  rfl

theorem unitProtos_apply (P : FVec Ideal S16x2048 .f32) (e : Fin 16) (k : Fin 2048) :
    unitProtos P (ix2 e k) = Ideal.div (P (ix2 e k)) (norm fun k => P (ix2 e k)) := by
  unfold unitProtos
  rw [ValueIdx.hostDivf_apply, broadcastInDim_apply _ _ _ (ix2 e k) (ix2 e (0 : Fin 1))
    (fun a => match a with | ⟨0, _⟩ => rfl | ⟨1, _⟩ => rfl), ValueIdx.maximumf_apply]
  show Ideal.div _ (max (Ideal.sqrt (broadcastInDim (s := S16) S16x1 ![0] bcast_S16_S16x1_0 _ (ix2 e (0 : Fin 1)))) small) = _
  rw [broadcastInDim_apply _ _ _ (ix2 e (0 : Fin 1)) (ix1 e) (fun a => match a with | ⟨0, _⟩ => rfl), sum_protos]
  rfl

theorem refLogits_apply (A : FVec Ideal S4x4096x2048 .f32) (P : FVec Ideal S16x2048 .f32) (b : Fin 4) (s : Fin 4096)
    (e : Fin 16) : refLogits A P (ix3 b s e) = logit (fun k => A (ix3 b s k)) fun k => P (ix2 e k) := by
  unfold refLogits logit
  rw [ValueIdx.hostDivf_apply]
  refine congrArg (fun s => Ideal.div s scale) ?_
  show FloatOps.dotGeneral _ _ _ _ _ _ = _
  rw [Ideal.dotGeneral_apply,
    ← Equiv.sum_comp (ValueIdx.contrEquiv1 dot_S4x4096x2048_S16x2048_S4x4096x16_2_1_01_0_n_n 2048 rfl rfl).symm]
  refine Finset.sum_congr rfl fun k _ => ?_
  have h₁ : dot_S4x4096x2048_S16x2048_S4x4096x16_2_1_01_0_n_n.lhsIdx (ix3 b s e)
      ((ValueIdx.contrEquiv1 dot_S4x4096x2048_S16x2048_S4x4096x16_2_1_01_0_n_n 2048 rfl rfl).symm k) = ix3 b s k :=
    funext fun c => match c with | ⟨0, _⟩ => Fin.ext rfl | ⟨1, _⟩ => Fin.ext rfl | ⟨2, _⟩ => Fin.ext rfl
  have h₂ : dot_S4x4096x2048_S16x2048_S4x4096x16_2_1_01_0_n_n.rhsIdx (ix3 b s e)
      ((ValueIdx.contrEquiv1 dot_S4x4096x2048_S16x2048_S4x4096x16_2_1_01_0_n_n 2048 rfl rfl).symm k) = ix2 e k :=
    funext fun c => match c with | ⟨0, _⟩ => Fin.ext rfl | ⟨1, _⟩ => Fin.ext rfl
  rw [h₁, h₂, unitActs_apply, unitProtos_apply]

end Cert.Proof

end
-- ==== Proof.Select.lean ====
/-
  The two experts the kernel's scans find are the two a stable descending sort of the token's sixteen logits puts first:
  the first scan keeps the first of the largest logits, the second the first of the largest among the others. The second
  scan starts at minus infinity, so it needs every logit to be greater than that.
-/
module

public import proofs.«01_k».proof.Proof.Scan
public import Idealize.ShloMosaic.PureOps.Ideal.Laws
public import Idealize.ShloMosaic.Lib.SortPrefix
public import Idealize.ShloMosaic.Lib.ValueIdx

@[expose] public section

noncomputable section

namespace Cert.Proof

open Idealize.ShloMosaic

/-! ## The scans -/

/-- Among the experts of `p`, expert `i` has the largest logit, and is the first that has it. -/
structure Leads (x : Fin 16 → EReal) (p : ℕ → Prop) (i : Fin 16) : Prop where
  mem : p i.val
  le : ∀ k : Fin 16, p k.val → x k ≤ x i
  lt : ∀ k : Fin 16, p k.val → k < i → x k < x i

theorem at16_eq {α : Type} (x : Fin 16 → α) (n : ℕ) (h : n < 16) : at16 x n = x ⟨n, h⟩ :=
  congrArg x (Fin.ext (Nat.mod_eq_of_lt h))

theorem select_gt (a b : EReal) {α : Type} (u v : α) :
    Scalar.select (FloatOps.cmpf (F := Ideal) (φ := .f32) .ogt a b) u v = if b < a then u else v := by
  rw [Ideal.cmpf_def]
  unfold Scalar.select Ideal.cmp
  by_cases h : b < a <;> simp [h]

/-- The first scan after experts `0 … n`: it holds the leader of those. -/
theorem best_spec (x : Fin 16 → EReal) (n : ℕ) (hn : n < 16) :
    ∃ i : Fin 16, Leads x (· ≤ n) i ∧ best (F := Ideal) x n = x i ∧ bestIx (F := Ideal) x n = BitVec.ofNat 32 i.val := by
  induction n with
  | zero =>
    refine ⟨0, ⟨le_refl _, fun k hk => ?_, fun k hk h => ?_⟩, rfl, rfl⟩
    · have : k = 0 := Fin.ext (Nat.le_zero.mp hk)
      rw [this]
    · exact absurd h (Fin.not_lt_zero k)
  | succ n ih =>
    obtain ⟨i, hi, hb, hx⟩ := ih (by omega)
    have ha : at16 x (n + 1) = x ⟨n + 1, hn⟩ := at16_eq x _ hn
    have e₁ : best (F := Ideal) x (n + 1) = if x i < x ⟨n + 1, hn⟩ then x ⟨n + 1, hn⟩ else x i := by
      rw [← hb, ← ha]; exact select_gt _ _ _ _
    have e₂ : bestIx (F := Ideal) x (n + 1)
        = if x i < x ⟨n + 1, hn⟩ then BitVec.ofNat 32 (n + 1) else BitVec.ofNat 32 i.val := by
      rw [← hx, ← hb, ← ha]; exact select_gt _ _ _ _
    have him : i.val ≤ n := hi.mem
    by_cases h : x i < x ⟨n + 1, hn⟩
    · refine ⟨⟨n + 1, hn⟩, ⟨le_refl _, fun k hk => ?_, fun k hk hlt => ?_⟩, ?_, ?_⟩
      · rcases Nat.lt_or_ge n k.val with h' | h'
        · have : k = ⟨n + 1, hn⟩ := Fin.ext (by show k.val = n + 1; have : k.val ≤ n + 1 := hk; omega)
          rw [this]
        · exact (hi.le k h').trans h.le
      · exact lt_of_le_of_lt (hi.le k (by have : k.val < n + 1 := hlt; show k.val ≤ n; omega)) h
      · rw [e₁, if_pos h]
      · rw [e₂, if_pos h]
    · refine ⟨i, ⟨by show i.val ≤ n + 1; omega, fun k hk => ?_, fun k hk hlt => ?_⟩, ?_, ?_⟩
      · rcases Nat.lt_or_ge n k.val with h' | h'
        · have : k = ⟨n + 1, hn⟩ := Fin.ext (by show k.val = n + 1; have : k.val ≤ n + 1 := hk; omega)
          rw [this]; exact not_lt.mp h
        · exact hi.le k h'
      · have : k.val < i.val := hlt
        exact hi.lt k (by show k.val ≤ n; omega) hlt
      · rw [e₁, if_neg h]
      · rw [e₂, if_neg h]

theorem select_takes (x : Fin 16 → EReal) (i : Fin 16) (n : ℕ) (hn : n < 16) (v : EReal) {α : Type} (a b : α) :
    Scalar.select (takes (F := Ideal) x (BitVec.ofNat 32 i.val) n v) a b
      = if i.val ≠ n ∧ v < x ⟨n, hn⟩ then a else b := by
  have hne : (BitVec.ofNat 32 i.val != BitVec.ofNat 32 n) = decide (i.val ≠ n) := by
    rw [bne, Bool.eq_iff_iff]
    simp only [Bool.not_eq_true', beq_eq_false_iff_ne, ne_eq, decide_eq_true_eq]
    refine not_congr ⟨fun h => ?_, fun h => by rw [h]⟩
    have := congrArg BitVec.toNat h
    have h₁ := i.isLt
    rw [BitVec.toNat_ofNat, BitVec.toNat_ofNat, Nat.mod_eq_of_lt (by omega), Nat.mod_eq_of_lt (by omega)] at this
    exact this
  unfold takes
  rw [Ideal.cmpf_def, at16_eq x n hn]
  unfold Scalar.select IntOp.andi IntOp.cmpi Ideal.cmp
  simp only [hne]
  by_cases h₁ : i.val = n <;> by_cases h₂ : v < x ⟨n, hn⟩ <;> simp [h₁, h₂]

/-- The second scan after experts `0 … n - 1`, expert `i` left out: it holds the leader of the others, if there are any. -/
theorem next_spec (x : Fin 16 → EReal) (hx : ∀ k, x k ≠ ⊥) (i : Fin 16) (n : ℕ) (hn : n ≤ 16) :
    (next (F := Ideal) x (BitVec.ofNat 32 i.val) n = ⊥ ∧ ∀ k : Fin 16, k.val < n → k = i)
    ∨ ∃ j : Fin 16, Leads x (fun k => k < n ∧ k ≠ i.val) j ∧ next (F := Ideal) x (BitVec.ofNat 32 i.val) n = x j
        ∧ nextIx (F := Ideal) x (BitVec.ofNat 32 i.val) n = BitVec.ofNat 32 j.val := by
  induction n with
  | zero =>
    refine .inl ⟨?_, fun k hk => absurd hk (Nat.not_lt_zero _)⟩
    show Ideal.ofBits .f32 0xFF800000#32 = ⊥
    simp [Ideal.ofBits, Ideal.ieee]
  | succ n ih =>
    have hn' : n < 16 := hn
    have e₁ : next (F := Ideal) x (BitVec.ofNat 32 i.val) (n + 1)
        = if i.val ≠ n ∧ next (F := Ideal) x (BitVec.ofNat 32 i.val) n < x ⟨n, hn'⟩ then x ⟨n, hn'⟩
          else next (F := Ideal) x (BitVec.ofNat 32 i.val) n := by
      rw [← select_takes x i n hn', ← at16_eq x n hn']; rfl
    have e₂ : nextIx (F := Ideal) x (BitVec.ofNat 32 i.val) (n + 1)
        = if i.val ≠ n ∧ next (F := Ideal) x (BitVec.ofNat 32 i.val) n < x ⟨n, hn'⟩ then BitVec.ofNat 32 n
          else nextIx (F := Ideal) x (BitVec.ofNat 32 i.val) n := by
      rw [← select_takes x i n hn']; rfl
    have split : ∀ k : Fin 16, k.val < n + 1 → k = ⟨n, hn'⟩ ∨ k.val < n := fun k hk => by
      rcases Nat.lt_succ_iff_lt_or_eq.mp hk with h | h
      · exact .inr h
      · exact .inl (Fin.ext h)
    rcases ih (by omega) with ⟨hb, hall⟩ | ⟨j, hj, hv, hw⟩
    · by_cases hin : i.val = n
      · refine .inl ⟨?_, fun k hk => ?_⟩
        · rw [e₁, if_neg (fun h => h.1 hin), hb]
        · rcases split k hk with h | h
          · rw [h]; exact Fin.ext hin.symm
          · exact hall k h
      · have hlt : next (F := Ideal) x (BitVec.ofNat 32 i.val) n < x ⟨n, hn'⟩ := by
          rw [hb]; exact bot_lt_iff_ne_bot.mpr (hx _)
        refine .inr ⟨⟨n, hn'⟩, ⟨⟨Nat.lt_succ_self n, fun h => hin h.symm⟩, fun k hk => ?_, fun k hk h => ?_⟩, ?_, ?_⟩
        · rcases split k hk.1 with h | h
          · rw [h]
          · exact absurd (congrArg Fin.val (hall k h)) hk.2
        · exact absurd (congrArg Fin.val (hall k h)) hk.2
        · rw [e₁, if_pos ⟨hin, hlt⟩]
        · rw [e₂, if_pos ⟨hin, hlt⟩]
    · rw [hv] at e₁ e₂
      by_cases hc : i.val ≠ n ∧ x j < x ⟨n, hn'⟩
      · refine .inr ⟨⟨n, hn'⟩, ⟨⟨Nat.lt_succ_self n, fun h => hc.1 h.symm⟩, fun k hk => ?_, fun k hk h => ?_⟩, ?_, ?_⟩
        · rcases split k hk.1 with h | h
          · rw [h]
          · exact (hj.le k ⟨h, hk.2⟩).trans hc.2.le
        · exact lt_of_le_of_lt (hj.le k ⟨h, hk.2⟩) hc.2
        · rw [e₁, if_pos hc]
        · rw [e₂, if_pos hc]
      · refine .inr ⟨j, ⟨⟨Nat.lt_succ_of_lt hj.mem.1, hj.mem.2⟩, fun k hk => ?_, fun k hk h => ?_⟩, ?_, ?_⟩
        · rcases split k hk.1 with h | h
          · rw [h] at hk ⊢
            exact not_lt.mp fun h' => hc ⟨fun e => hk.2 e.symm, h'⟩
          · exact hj.le k ⟨h, hk.2⟩
        · exact hj.lt k ⟨lt_trans h hj.mem.1, hk.2⟩ h
        · rw [e₁, if_neg hc]
        · rw [e₂, if_neg hc, hw]

/-! ## The sort -/

/-- Two relations that agree on each later element against an earlier one sort alike: the sort asks nothing else. -/
theorem stableSort_later {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_later R R' h l hl.2]
    exact insertBefore_congr R R' a _ fun b hb => h a b (hl.1 b ((perm_stableSort R' l).mem_iff.mp hb))

/-- Equal lists of sorted positions are equal sorts. -/
theorem sortedFrom_of_positions {n : ℕ} (R R' : Fin n → Fin n → Bool) (h : sortPositions n R = sortPositions n R') :
    sortedFrom R = sortedFrom R' :=
  funext fun k => List.get_of_eq h _

/-- The greater logit first, and of equals the earlier. -/
def ahead (x : Fin 16 → EReal) (k k' : Fin 16) : Bool := decide (x k' < x k) || (decide (x k = x k') && decide (k < k'))

theorem ahead_total (x : Fin 16 → EReal) : StrictTotalBefore (ahead x) :=
  StrictTotalBefore.of_key_then_position (fun a b : EReal => decide (b < a)) x (fun a => by simp)
    (fun a b c h₁ h₂ => by
      simp only [decide_eq_true_eq] at h₁ h₂ ⊢
      exact lt_trans h₂ h₁)
    (fun a b => by
      simp only [decide_eq_true_eq]
      rcases lt_trichotomy a b with h | h | h
      · exact .inr (.inr h)
      · exact .inr (.inl h)
      · exact .inl h)

/-- The sort's comparison of two logits. -/
abbrev greater (x : Fin 16 → EReal) (k k' : Fin 16) : Bool :=
  FloatOps.cmpfTotal (F := Ideal) (φ := .f32) .gt (x k) (x k') == 1#1

theorem sortedFrom_greater (x : Fin 16 → EReal) : sortedFrom (greater x) = sortedFrom (ahead x) := by
  have h : sortPositions 16 (greater x) = sortPositions 16 (ahead x) :=
    stableSort_later _ _ (fun a b hab => by
      have hab' : ¬b < a := not_lt.mpr hab.le
      unfold greater ahead
      rw [Ideal.cmpfTotal_def]
      show (BitVec.ofBool (decide (x a < x b)) == 1#1) = _
      by_cases h : x a < x b <;> simp [h, hab']) _ (List.pairwise_lt_finRange 16)
  exact sortedFrom_of_positions _ _ h

/-- The leader, and the leader of the others, are the sort's first two positions. -/
theorem sortedFrom_leads (x : Fin 16 → EReal) (i j : Fin 16) (hi : Leads x (· ≤ 15) i)
    (hj : Leads x (fun k => k < 16 ∧ k ≠ i.val) j) :
    sortedFrom (greater x) 0 = i ∧ sortedFrom (greater x) 1 = j := by
  have hij : j ≠ i := fun e => hj.mem.2 (congrArg Fin.val e)
  have nb : ∀ (k l : Fin 16), x k ≤ x l → (k < l → x k < x l) → ahead x k l = false := fun k l h h' => by
    unfold ahead
    rw [Bool.or_eq_false_iff, Bool.and_eq_false_iff, decide_eq_false_iff_not, decide_eq_false_iff_not,
      decide_eq_false_iff_not]
    exact ⟨not_lt.mpr h, (Classical.em (k < l)).elim (fun hl => .inl (h' hl).ne) .inr⟩
  have hdi : ∀ k, ahead x k i = false := fun k =>
    nb k i (hi.le k (by have := k.isLt; show k.val ≤ 15; omega)) (hi.lt k (by have := k.isLt; show k.val ≤ 15; omega))
  have hdj : ∀ k, k ≠ i → ahead x k j = false := fun k hk =>
    nb k j (hj.le k ⟨k.isLt, fun e => hk (Fin.ext e)⟩) (hj.lt k ⟨k.isLt, fun e => hk (Fin.ext e)⟩)
  have key := (ahead_total x).sortedFrom_eq_of_prefix (k := 2) (by norm_num) ![i, j]
    (fun a b h => by
      match a, b with
      | 0, 0 => rfl
      | 0, 1 => exact absurd h.symm hij
      | 1, 0 => exact absurd h hij
      | 1, 1 => rfl)
    (fun a b h => by
      match a, b with
      | 0, 1 => exact hdi j
      | 0, 0 => exact absurd h (lt_irrefl _)
      | 1, 0 => exact absurd h (by decide)
      | 1, 1 => exact absurd h (lt_irrefl _))
    (fun a p hp => by
      match a with
      | 0 => exact hdi p
      | 1 => exact hdj p fun e => hp 0 e.symm)
  rw [sortedFrom_greater]
  exact ⟨(congrArg (sortedFrom (ahead x)) (show (0 : Fin 16) = Fin.castLE (by norm_num) (0 : Fin 2) from rfl)).trans (key 0),
    (congrArg (sortedFrom (ahead x)) (show (1 : Fin 16) = Fin.castLE (by norm_num) (1 : Fin 2) from rfl)).trans (key 1)⟩

/-- The two scans find the sort's first two positions, and leave their logits. -/
theorem scans_sort (x : Fin 16 → EReal) (hx : ∀ k, x k ≠ ⊥) :
    best (F := Ideal) x 15 = x (sortedFrom (greater x) 0)
    ∧ next (F := Ideal) x (bestIx (F := Ideal) x 15) 16 = x (sortedFrom (greater x) 1)
    ∧ bestIx (F := Ideal) x 15 = BitVec.ofNat 32 (sortedFrom (greater x) 0).val
    ∧ nextIx (F := Ideal) x (bestIx (F := Ideal) x 15) 16 = BitVec.ofNat 32 (sortedFrom (greater x) 1).val
    ∧ x (sortedFrom (greater x) 1) ≤ x (sortedFrom (greater x) 0) := by
  obtain ⟨i, hi, hv, hw⟩ := best_spec x 15 (by norm_num)
  rcases next_spec x hx i 16 le_rfl with ⟨-, hall⟩ | ⟨j, hj, hv', hw'⟩
  · have h := (hall 0 (by norm_num)).trans (hall 1 (by norm_num)).symm
    exact absurd h (by decide)
  · obtain ⟨h₀, h₁⟩ := sortedFrom_leads x i j hi hj
    rw [h₀, h₁, hw]
    exact ⟨hv, hv', rfl, hw', hi.le j (by have := j.isLt; show j.val ≤ 15; omega)⟩

end Cert.Proof

end
-- ==== Proof.RefRoute.lean ====
/-
  The reference's two results, entry by entry: the positions of the two largest logits of a token, in the order of a stable
  descending sort, and the softmax of those two logits.
-/
module

public import proofs.«01_k».proof.Proof.RefLogits
public import proofs.«01_k».proof.Proof.Select

@[expose] public section

noncomputable section

namespace Cert.Proof

open Cert.ReferenceIdeal Cert.ReferenceIdeal.Gen

open Idealize.ShloMosaic

/-! ## The two largest -/

/-- A token's logits. -/
abbrev ofToken (L : FVec Ideal S4x4096x16 .f32) (b : Fin 4) (s : Fin 4096) : Fin 16 → EReal := fun e => L (ix3 b s e)

/-- The two largest logits and their positions. -/
abbrev topTwo (L : FVec Ideal S4x4096x16 .f32) : FVec Ideal S4x4096x2 .f32 × IVec S4x4096x2 32 :=
  Host.topK S4x4096x2 2 (FloatOps.cmpfTotal .gt) L sliceFits_S4x4096x16_S4x4096x2

/-- An index of the logits with its expert replaced, as the sort replaces it, -/
def withExpert (b : Fin 4) (s : Fin 4096) (c k : Fin 16) : S4x4096x16.Idx :=
  Shape.Idx.along (s := S4x4096x16) (ix3 b s c) (2 : Fin 3) k

/-- is the index of that expert. -/
theorem withExpert_eq (b : Fin 4) (s : Fin 4096) (c k : Fin 16) : withExpert b s c k = ix3 b s k :=
  funext fun a => match a with | ⟨0, _⟩ => rfl | ⟨1, _⟩ => rfl | ⟨2, _⟩ => rfl

/-- The sort's comparison, at a token's entries as the sort reaches them, -/
def greaterAlong (L : FVec Ideal S4x4096x16 .f32) (b : Fin 4) (s : Fin 4096) (c k k' : Fin 16) : Bool :=
  FloatOps.cmpfTotal (F := Ideal) (φ := .f32) .gt (L (withExpert b s c k)) (L (withExpert b s c k')) == 1#1

/-- is the comparison of the token's logits. -/
theorem greaterAlong_eq (L : FVec Ideal S4x4096x16 .f32) (b : Fin 4) (s : Fin 4096) (c : Fin 16) :
    greaterAlong L b s c = greater (ofToken L b s) := by
  funext k k'
  unfold greaterAlong
  rw [withExpert_eq, withExpert_eq]

theorem topTwo_value (L : FVec Ideal S4x4096x16 .f32) (b : Fin 4) (s : Fin 4096) (c : Fin 2) :
    (topTwo L).1 (ix3 b s c) = L (ix3 b s (sortedFrom (greater (ofToken L b s)) (c.castLE (by norm_num)))) := by
  unfold topTwo Host.topK Host.sort2
  dsimp only
  rw [extractStridedSlice_apply _ _ _ (ix3 b s c) (ix3 b s (c.castLE (by norm_num) : Fin 16)) (fun a => by
    match a with
    | ⟨0, _⟩ => exact (Nat.zero_add _).symm
    | ⟨1, _⟩ => exact (Nat.zero_add _).symm
    | ⟨2, _⟩ => exact (Nat.zero_add _).symm)]
  rw [dif_pos (show 2 < S4x4096x16.rank by decide)]
  show L (withExpert b s (c.castLE (by norm_num))
    (sortedFrom (n := 16) (greaterAlong L b s (c.castLE (by norm_num))) (c.castLE (by norm_num)))) = _
  rw [withExpert_eq, greaterAlong_eq]

theorem topTwo_position (L : FVec Ideal S4x4096x16 .f32) (b : Fin 4) (s : Fin 4096) (c : Fin 2) :
    (topTwo L).2 (ix3 b s c)
      = BitVec.ofNat 32 (sortedFrom (greater (ofToken L b s)) (c.castLE (by norm_num))).val := by
  unfold topTwo Host.topK Host.sort2
  dsimp only
  rw [extractStridedSlice_apply _ _ _ (ix3 b s c) (ix3 b s (c.castLE (by norm_num) : Fin 16)) (fun a => by
    match a with
    | ⟨0, _⟩ => exact (Nat.zero_add _).symm
    | ⟨1, _⟩ => exact (Nat.zero_add _).symm
    | ⟨2, _⟩ => exact (Nat.zero_add _).symm)]
  rw [dif_pos (show 2 < S4x4096x16.rank by decide)]
  show BitVec.ofNat 32 (withExpert b s (c.castLE (by norm_num))
    (sortedFrom (n := 16) (greaterAlong L b s (c.castLE (by norm_num))) (c.castLE (by norm_num))) (2 : Fin 3)).val = _
  rw [withExpert_eq, greaterAlong_eq]
  generalize sortedFrom _ _ = q
  rfl

/-! ## The softmax -/

/-- The largest of each token's two, -/
def refMax (V : FVec Ideal S4x4096x2 .f32) : FVec Ideal S4x4096 .f32 :=
  maximumf (broadcastInDim S4x4096 ![] bcast_S_S4x4096 (constant S_ .f32 0xFF800000#32))
    (Host.reduce FloatOps.maximumf V (constant S_ .f32 0xFF800000#32) reducesTo_S4x4096x2_S4x4096_d2 h_S_)

/-- the exponentials of the differences from it, -/
def refExp (V : FVec Ideal S4x4096x2 .f32) : FVec Ideal S4x4096x2 .f32 :=
  Host.exp (subf V (broadcastInDim S4x4096x2 ![0, 1, 2] bcast_S4x4096x1_S4x4096x2_0_1_2
    (broadcastInDim S4x4096x1 ![0, 1] bcast_S4x4096_S4x4096x1_0_1 (refMax V))))

/-- and those over their sum. -/
def refWeights (V : FVec Ideal S4x4096x2 .f32) : FVec Ideal S4x4096x2 .f32 :=
  Host.divf (refExp V) (broadcastInDim S4x4096x2 ![0, 1, 2] bcast_S4x4096x1_S4x4096x2_0_1_2
    (broadcastInDim S4x4096x1 ![0, 1] bcast_S4x4096_S4x4096x1_0_1
      (Host.reduceAdd (refExp V) (constant S_ .f32 0x00000000#32) reducesTo_S4x4096x2_S4x4096_d2 h_S_)))

/-- A value per token, spread over its two entries. -/
theorem spread_apply (x : FVec Ideal S4x4096 .f32) (b : Fin 4) (s : Fin 4096) (c : Fin 2) :
    broadcastInDim S4x4096x2 ![0, 1, 2] bcast_S4x4096x1_S4x4096x2_0_1_2
      (broadcastInDim S4x4096x1 ![0, 1] bcast_S4x4096_S4x4096x1_0_1 x) (ix3 b s c) = x (ix2 b s) := by
  rw [broadcastInDim_apply _ _ _ (ix3 b s c) (ix3 b s (0 : Fin 1))
    (fun a => match a with | ⟨0, _⟩ => rfl | ⟨1, _⟩ => rfl | ⟨2, _⟩ => rfl),
    broadcastInDim_apply _ _ _ (ix3 b s (0 : Fin 1)) (ix2 b s) (fun a => match a with | ⟨0, _⟩ => rfl | ⟨1, _⟩ => rfl)]

theorem lift_two (hred : S4x4096x2.Reduces [2] S4x4096) (b : Fin 4) (s : Fin 4096) (c : Fin 2) :
    hred.lift (ix2 b s) c = ix3 b s c :=
  funext fun a => match a with | ⟨0, _⟩ => rfl | ⟨1, _⟩ => rfl | ⟨2, _⟩ => rfl

theorem fold_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_eq_left (bot_le : (⊥ : EReal) ≤ f 1)]

theorem refMax_apply (V : FVec Ideal S4x4096x2 .f32) (b : Fin 4) (s : Fin 4096) :
    refMax V (ix2 b s) = max (V (ix3 b s 0)) (V (ix3 b s 1)) := by
  have hred : S4x4096x2.Reduces [2] S4x4096 := by decide
  unfold refMax
  rw [ValueIdx.maximumf_apply, Host.reduce_eq_fold, Shape.ReducesTo.drop_eq_drop _ hred, hred.fold_filter_drop_single]
  show max (Ideal.ofBits .f32 0xFF800000#32)
    ((Finset.univ : Finset (Fin 2)).fold max (Ideal.ofBits .f32 0xFF800000#32) (V ∘ hred.lift (ix2 b s))) = _
  rw [ofBits_bot, max_eq_right bot_le]
  refine (fold_two fun c => V (hred.lift (ix2 b s) c)).trans ?_
  rw [lift_two, lift_two]

theorem refExp_apply (V : FVec Ideal S4x4096x2 .f32) (b : Fin 4) (s : Fin 4096) (c : Fin 2) :
    refExp V (ix3 b s c) = Ideal.exp (V (ix3 b s c) - max (V (ix3 b s 0)) (V (ix3 b s 1))) := by
  unfold refExp
  show Ideal.exp (V (ix3 b s c) - broadcastInDim S4x4096x2 ![0, 1, 2] bcast_S4x4096x1_S4x4096x2_0_1_2
    (broadcastInDim (s := S4x4096) S4x4096x1 ![0, 1] bcast_S4x4096_S4x4096x1_0_1 (refMax V)) (ix3 b s c)) = _
  rw [spread_apply, refMax_apply]

theorem refWeights_apply (V : FVec Ideal S4x4096x2 .f32) (b : Fin 4) (s : Fin 4096) (c : Fin 2) :
    refWeights V (ix3 b s c) = Ideal.div (refExp V (ix3 b s c)) (refExp V (ix3 b s 0) + refExp V (ix3 b s 1)) := by
  have hred : S4x4096x2.Reduces [2] S4x4096 := by decide
  unfold refWeights
  rw [ValueIdx.hostDivf_apply, spread_apply]
  refine congrArg (Ideal.div _) ?_
  show Ideal.hostReduceAdd reducesTo_S4x4096x2_S4x4096_d2 (refExp V) (Ideal.ofBits .f32 0x00000000#32) (ix2 b s) = _
  rw [Ideal.hostReduceAdd_single _ hred, Ideal.ofBits_zero_f32, zero_add]
  show ∑ k : Fin 2, refExp V (hred.lift (ix2 b s) k) = _
  rw [Fin.sum_univ_two, lift_two, lift_two]

end Cert.Proof

end
-- ==== Proof.Token.lean ====
/-
  One token: what the kernel picks and how it weighs the two, beside the two logits that a stable descending sort of the
  token's sixteen puts first and their softmax.
-/
module

public import proofs.«01_k».proof.Proof.Select
public import proofs.«01_k».proof.Proof.Softmax

@[expose] public section

noncomputable section

namespace Cert.Proof

open Idealize.ShloMosaic

/-- The position a stable descending sort of the logits puts at place `c`, -/
def place (x : Fin 16 → EReal) (c : Fin 2) : Fin 16 := sortedFrom (greater x) (c.castLE (by norm_num))

/-- the logit there, with the largest of the two taken from it and exponentiated, -/
def power (x : Fin 16 → EReal) (c : Fin 2) : EReal :=
  Ideal.exp (x (place x c) - max (x (place x 0)) (x (place x 1)))

/-- and the softmax of the two. -/
def share (x : Fin 16 → EReal) (c : Fin 2) : EReal := Ideal.div (power x c) (power x 0 + power x 1)

theorem place_zero (x : Fin 16 → EReal) : place x 0 = sortedFrom (greater x) 0 :=
  congrArg (sortedFrom (greater x)) (show Fin.castLE _ (0 : Fin 2) = (0 : Fin 16) from rfl)

theorem place_one (x : Fin 16 → EReal) : place x 1 = sortedFrom (greater x) 1 :=
  congrArg (sortedFrom (greater x)) (show Fin.castLE _ (1 : Fin 2) = (1 : Fin 16) from rfl)

/-- The kernel picks those positions, -/
theorem pick_eq (x : Fin 16 → EReal) (hx : ∀ k, x k ≠ ⊥) (c : Fin 2) :
    pick (F := Ideal) x c = BitVec.ofNat 32 (place x c).val := by
  obtain ⟨-, -, h₀, h₁, -⟩ := scans_sort x hx
  match c with
  | 0 => rw [place_zero]; exact h₀
  | 1 => rw [place_one]; exact h₁

/-- and weighs them by that softmax. -/
theorem weigh_eq (x : Fin 16 → EReal) (hx : ∀ k, ∃ r : ℝ, x k = (r : EReal)) (c : Fin 2) :
    weigh (F := Ideal) x c = share x c := by
  obtain ⟨h₀, h₁, -, -, hle⟩ := scans_sort x fun k => by
    obtain ⟨r, hr⟩ := hx k
    rw [hr]
    exact EReal.coe_ne_bot r
  obtain ⟨a, ha⟩ := hx (place x 0)
  obtain ⟨b, hb⟩ := hx (place x 1)
  rw [← place_zero] at h₀ hle
  rw [← place_one] at h₁ hle
  have h₂ : weight₂ (F := Ideal) x
      = Ideal.div (Ideal.exp ((b : EReal) - a)) (1 + Ideal.exp ((b : EReal) - a)) := by
    unfold weight₂
    rw [h₀, h₁, ha, hb]
    show Ideal.div (Ideal.exp ((b : EReal) - a)) (Ideal.ofBits .f32 0x3F800000#32 + Ideal.exp ((b : EReal) - a)) = _
    rw [Ideal.ofBits_one_f32]
  unfold share power
  rw [max_eq_left hle, ha, hb]
  match c with
  | 0 =>
    show Ideal.ofBits .f32 0x3F800000#32 - weight₂ (F := Ideal) x = _
    rw [Ideal.ofBits_one_f32, h₂, ha]
    exact (softmax_first a b).symm
  | 1 =>
    show weight₂ (F := Ideal) x = _
    rw [h₂, hb]
    exact (softmax_second a b).symm

end Cert.Proof

end
-- ==== Proof.Algebraic.lean ====
/-
  The kernel's results are the reference's. Token `(b, s)` of the reference is token `4096 b + s` of the kernel: the
  activations are reshaped before the kernel, and the two results transposed and reshaped after it. So both programs take
  the same sixteen logits for a token, and `Token.lean` compares what they make of them.
-/
module

public import proofs.«01_k».proof.Defs
public import proofs.«01_k».proof.Proof.Launch
public import proofs.«01_k».proof.Proof.KernelLogits
public import proofs.«01_k».proof.Proof.RefRoute
public import proofs.«01_k».proof.Proof.Token
public import proofs.«01_k».proof.Proof.Gen.ReferenceIdeal

@[expose] public section

noncomputable section

namespace Cert.Proof

open Cert.KernelIdeal Cert.KernelIdeal.Gen

open Idealize.ShloMosaic Idealize.SL.Sem

/-! ## The tokens -/

/-- Token `(b, s)` in the kernel's order. -/
def flat (b : Fin 4) (s : Fin 4096) : Fin 16384 := ⟨b.val * 4096 + s.val, by omega⟩

/-- The activations reshaped, -/
theorem acts_flat (A : FVec Ideal S4x4096x2048 .f32) (b : Fin 4) (s : Fin 4096) (k : Fin 2048) :
    shapeCast S16384x2048 A shapeCasts_S4x4096x2048_S16384x2048 (ix2 (flat b s) k) = A (ix3 b s k) :=
  shapeCast_apply A _ _ _ (by rw [Shape.rowMajor_val_three, Shape.rowMajor_val_two]; rfl)

/-- and a result transposed and reshaped. -/
theorem result_flat {α : Type} (y : S2x16384.Idx → α) (b : Fin 4) (s : Fin 4096) (c : Fin 2) :
    shapeCast S4x4096x2 (transpose S16384x2 [1, 0] y transposes_S2x16384_S16384x2_1_0) shapeCasts_S16384x2_S4x4096x2
      (ix3 b s c) = y (ix2 c (flat b s)) := by
  rw [shapeCast_apply _ _ (ix3 b s c) (ix2 (flat b s) c)
    (by rw [Shape.rowMajor_val_three, Shape.rowMajor_val_two]; rfl)]
  exact transpose_apply _ y _ _ _ fun a => match a with | ⟨0, _⟩ => rfl | ⟨1, _⟩ => rfl

/-! ## The results -/

section

variable (A : FVec Ideal Cert.ReferenceIdeal.S4x4096x2048 .f32) (P : FVec Ideal Cert.ReferenceIdeal.S16x2048 .f32)

/-- Both programs take these logits for a token. -/
theorem same_logits (b : Fin 4) (s : Fin 4096) :
    (fun e => logits (F := Ideal) (shapeCast S16384x2048 (A : FVec Ideal S4x4096x2048 .f32)
        shapeCasts_S4x4096x2048_S16384x2048) P (ix2 e (flat b s)))
      = ofToken (refLogits A P) b s := by
  funext e
  show _ = refLogits A P (ix3 b s e)
  rw [logits_apply, refLogits_apply]
  exact congrArg (fun x => logit x fun k => P (ix2 e k)) (funext fun k => acts_flat A b s k)

/-- They are real numbers. -/
theorem ofToken_real (b : Fin 4) (s : Fin 4096) (e : Fin 16) :
    ∃ r : ℝ, ofToken (refLogits A P) b s e = (r : EReal) := by
  show ∃ r : ℝ, refLogits A P (ix3 b s e) = (r : EReal)
  rw [refLogits_apply]
  exact logit_real _ _

/-- The reference's softmax, token by token. -/
theorem refWeights_share (L : FVec Ideal Cert.ReferenceIdeal.S4x4096x16 .f32) (b : Fin 4) (s : Fin 4096) (c : Fin 2) :
    refWeights (topTwo L).1 (ix3 b s c) = share (ofToken L b s) c := by
  have hp (c : Fin 2) : refExp (topTwo L).1 (ix3 b s c) = power (ofToken L b s) c := by
    rw [refExp_apply, topTwo_value, topTwo_value, topTwo_value]
    rfl
  rw [refWeights_apply, hp, hp, hp]
  rfl

end

variable (m : (ℓ : Loc nD τ sig) → Buf (Elt Ideal) ℓ) (d : Dev nD)

/-- The experts are the reference's, -/
theorem outE_eq : outE m d = (topTwo (refLogits (m (d, dr main_arg0)) (m (d, dr main_arg1)))).2 := by
  funext i
  obtain ⟨b, s, c, rfl⟩ : ∃ (b : Fin 4) (s : Fin 4096) (c : Fin 2), i = ix3 b s c := ⟨i 0, i 1, i 2, eq_ix3 i⟩
  unfold outE
  rw [result_flat]
  show pick (F := Ideal) (fun e => LG m d (ix2 e (flat b s))) c = _
  unfold LG acts
  rw [same_logits, pick_eq _ fun k => by
    obtain ⟨r, hr⟩ := ofToken_real (m (d, dr main_arg0)) (m (d, dr main_arg1)) b s k
    rw [hr]
    exact EReal.coe_ne_bot r]
  exact (topTwo_position _ b s c).symm

/-- and so are the weights. -/
theorem outW_eq : outW m d = refWeights (topTwo (refLogits (m (d, dr main_arg0)) (m (d, dr main_arg1)))).1 := by
  funext i
  obtain ⟨b, s, c, rfl⟩ : ∃ (b : Fin 4) (s : Fin 4096) (c : Fin 2), i = ix3 b s c := ⟨i 0, i 1, i 2, eq_ix3 i⟩
  unfold outW
  rw [result_flat]
  show weigh (F := Ideal) (fun e => LG m d (ix2 e (flat b s))) c = _
  unfold LG acts
  rw [same_logits, weigh_eq _ (ofToken_real (m (d, dr main_arg0)) (m (d, dr main_arg1)) b s)]
  exact (refWeights_share _ b s c).symm

/-! ## The two runs -/

/-- The second result of the reference's run is the softmax of the two largest logits. -/
theorem reference_weights (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v23 m' c
      = refWeights (topTwo (refLogits (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)))).1 := rfl

/-- `Cert.algebraic_KernelIdeal_ReferenceIdeal` (Defs.lean). -/
theorem algebraic : Cert.algebraic_KernelIdeal_ReferenceIdeal := fun m ρ m' ρ' _ hm => by
  refine ⟨fun c => outE m c, fun c => outW m c, ?_, ?_⟩
  · exact (θ_run (Cert.KernelIdeal.defs (F := Ideal)) _ _).mono (fun r (h : QC (F := Ideal) m r) => fun c => h.1 c)
      (run_main (F := Ideal) m ρ)
  · refine (θ_run (Cert.ReferenceIdeal.defs (F := Ideal)) _ _).mono (fun r h => fun c => ?_)
      (Cert.ReferenceIdeal.Value.run (F := Ideal) m' ρ')
    obtain ⟨h₀, h₁, h₂⟩ := h c
    refine ⟨h₀.trans ?_, h₁.trans ?_, h₂⟩
    · rw [(hm c).1, (hm c).2]
      exact (outE_eq m c).symm
    · rw [reference_weights, (hm c).1, (hm c).2]
      exact (outW_eq m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Algebraic
public import Idealize.ShloMosaic.Adequacy
public import Idealize.ShloMosaic.Init

@[expose] public section

noncomputable section

namespace Cert.Proof

open Idealize.ShloMosaic Idealize.SL.Sem

/-- `Cert.quiescent_ReferenceIdeal` (Defs.lean): the reference declares no semaphore. -/
theorem frame_reference : Cert.quiescent_ReferenceIdeal := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_kernelIdeal, frame_reference, trivial, algebraic⟩

end Cert.Proof

end
